-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_moderate [hPre_moderate : Cert.Pre_moderate.Facts] (m : (ℓ : Loc Cert.KernelIdeal.nD Cert.KernelIdeal.τ Cert.KernelIdeal.sig) → Buf (Elt Ideal) ℓ) : Prop :=
  ∀ c : Dev Cert.KernelIdeal.nD,
    (Cert.Pre_moderate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_moderate [hPre_moderate : Cert.Pre_moderate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_moderate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_moderate [hKernelIdeal : Cert.KernelIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_moderate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_moderate [hReferenceIdeal : Cert.ReferenceIdeal.Facts] [hPre_moderate : Cert.Pre_moderate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_moderate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_moderate [hKernelIdeal : Cert.KernelIdeal.Facts] [hReferenceIdeal : Cert.ReferenceIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_moderate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v179)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v179) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_moderate : Cert.Pre_moderate.Facts),
    quiescent_Kernel (hKernel := hKernel)
    ∧ quiescent_KernelIdeal (hKernelIdeal := hKernelIdeal)
    ∧ quiescent_KernelIdeal_pre_moderate (hKernelIdeal := hKernelIdeal) (hPre_moderate := hPre_moderate)
    ∧ quiescent_ReferenceIdeal (hReferenceIdeal := hReferenceIdeal)
    ∧ quiescent_ReferenceIdeal_pre_moderate (hReferenceIdeal := hReferenceIdeal) (hPre_moderate := hPre_moderate)
    ∧ preserves_Kernel_KernelIdeal
    ∧ algebraic_KernelIdeal_ReferenceIdeal_pre_moderate (hKernelIdeal := hKernelIdeal) (hReferenceIdeal := hReferenceIdeal) (hPre_moderate := hPre_moderate)
-- ==== Pre_moderate.lean ====
abbrev S1x1x2x96x96 : Shape := ⟨5, ![1, 1, 2, 96, 96]⟩
abbrev S_ : Shape := ⟨0, ![]⟩

class Facts : Prop where
  bcast_S_S1x1x2x96x96 : S_.BroadcastsInDim S1x1x2x96x96 (![] : Fin 0 → Fin S1x1x2x96x96.rank)
  reducesTo_S1x1x2x96x96_S_d0_1_2_3_4 : S1x1x2x96x96.ReducesTo [0, 1, 2, 3, 4] S_
  h_S_ : 0 < S_.numel

variable [Facts]

def fn {F : FTy → Type} [FloatOps F] (main_arg0 : FVec F S1x1x2x96x96 .f32) (main_arg1 : FVec F S1x1x2x96x96 .f32) : IVec S_ 1 :=
  let main_v0 : FVec F S1x1x2x96x96 .f32 := Host.absf main_arg0
  let main_cst : FVec F S_ .f32 := constant S_ .f32 0x56B5E621#32
  let main_v1 : FVec F S1x1x2x96x96 .f32 := broadcastInDim S1x1x2x96x96 ![] bcast_S_S1x1x2x96x96 main_cst
  let main_v2 : IVec S1x1x2x96x96 1 := cmpf .ole main_v0 main_v1
  let main_c : IVec S_ 1 := constantI S_ 1 1#1
  let main_v3 : IVec S_ 1 := (fun x v => Host.reduce IntOp.andi x v reducesTo_S1x1x2x96x96_S_d0_1_2_3_4 h_S_) main_v2 main_c
  let main_v4 : FVec F S1x1x2x96x96 .f32 := Host.absf main_arg1
  let main_cst_0 : FVec F S_ .f32 := constant S_ .f32 0x56B5E621#32
  let main_v5 : FVec F S1x1x2x96x96 .f32 := broadcastInDim S1x1x2x96x96 ![] bcast_S_S1x1x2x96x96 main_cst_0
  let main_v6 : IVec S1x1x2x96x96 1 := cmpf .ole main_v4 main_v5
  let main_c_1 : IVec S_ 1 := constantI S_ 1 1#1
  let main_v7 : IVec S_ 1 := (fun x v => Host.reduce IntOp.andi x v reducesTo_S1x1x2x96x96_S_d0_1_2_3_4 h_S_) main_v6 main_c_1
  let main_v8 : IVec S_ 1 := andi main_v3 main_v7
  main_v8
-- ==== Kernel.lean ====
abbrev S1x1x2x96x96 : Shape := ⟨5, ![1, 1, 2, 96, 96]⟩
abbrev S1x1x2x92x92 : Shape := ⟨5, ![1, 1, 2, 92, 92]⟩
abbrev S2x92x92 : Shape := ⟨3, ![2, 92, 92]⟩
abbrev S1x2x92x92 : Shape := ⟨4, ![1, 2, 92, 92]⟩
abbrev S16x2x92x92 : Shape := ⟨4, ![16, 2, 92, 92]⟩
abbrev S9x2x92x92 : Shape := ⟨4, ![9, 2, 92, 92]⟩
abbrev S25x2x92x92 : Shape := ⟨4, ![25, 2, 92, 92]⟩
abbrev S25x16928 : Shape := ⟨2, ![25, 16928]⟩
abbrev S_ : Shape := ⟨0, ![]⟩
abbrev S2x16928 : Shape := ⟨2, ![2, 16928]⟩
abbrev S27x16928 : Shape := ⟨2, ![27, 16928]⟩
abbrev S32x17408 : Shape := ⟨2, ![32, 17408]⟩
abbrev S25x17408 : Shape := ⟨2, ![25, 17408]⟩
abbrev S16928 : Shape := ⟨1, ![16928]⟩
abbrev S480 : Shape := ⟨1, ![480]⟩
abbrev S17408 : Shape := ⟨1, ![17408]⟩
abbrev S1x17408 : Shape := ⟨2, ![1, 17408]⟩
abbrev S27x17408 : Shape := ⟨2, ![27, 17408]⟩
abbrev S8x128 : Shape := ⟨2, ![8, 128]⟩
abbrev S32x4352 : Shape := ⟨2, ![32, 4352]⟩
abbrev S32x1024 : Shape := ⟨2, ![32, 1024]⟩
abbrev S4352x1024 : Shape := ⟨2, ![4352, 1024]⟩
abbrev S4352x128 : Shape := ⟨2, ![4352, 128]⟩
abbrev S4352 : Shape := ⟨1, ![4352]⟩
abbrev S4352x1 : Shape := ⟨2, ![4352, 1]⟩
abbrev S1x32x4352 : Shape := ⟨3, ![1, 32, 4352]⟩
abbrev S1 : Shape := ⟨1, ![1]⟩
abbrev S1x1x1 : Shape := ⟨3, ![1, 1, 1]⟩
abbrev S1x4352x1 : Shape := ⟨3, ![1, 4352, 1]⟩
abbrev S1x1 : Shape := ⟨2, ![1, 1]⟩

abbrev nBuf : Space → Nat
  | .hbm => 192
  | .vmem => 4
  | .smem => 0
  | _ => 0

abbrev hbmTy0_0 (i : Nat) : BufTy := match i % 128 with
  | 0 => ⟨S1x1x2x96x96, .f32⟩
  | 1 => ⟨S1x1x2x96x96, .f32⟩
  | 2 => ⟨S1x1x2x92x92, .f32⟩
  | 3 => ⟨S2x92x92, .f32⟩
  | 4 => ⟨S1x1x2x92x92, .f32⟩
  | 5 => ⟨S2x92x92, .f32⟩
  | 6 => ⟨S1x1x2x92x92, .f32⟩
  | 7 => ⟨S2x92x92, .f32⟩
  | 8 => ⟨S1x1x2x92x92, .f32⟩
  | 9 => ⟨S2x92x92, .f32⟩
  | 10 => ⟨S1x1x2x92x92, .f32⟩
  | 11 => ⟨S2x92x92, .f32⟩
  | 12 => ⟨S1x1x2x92x92, .f32⟩
  | 13 => ⟨S2x92x92, .f32⟩
  | 14 => ⟨S1x1x2x92x92, .f32⟩
  | 15 => ⟨S2x92x92, .f32⟩
  | 16 => ⟨S1x1x2x92x92, .f32⟩
  | 17 => ⟨S2x92x92, .f32⟩
  | 18 => ⟨S1x1x2x92x92, .f32⟩
  | 19 => ⟨S2x92x92, .f32⟩
  | 20 => ⟨S1x1x2x92x92, .f32⟩
  | 21 => ⟨S2x92x92, .f32⟩
  | 22 => ⟨S1x1x2x92x92, .f32⟩
  | 23 => ⟨S2x92x92, .f32⟩
  | 24 => ⟨S1x1x2x92x92, .f32⟩
  | 25 => ⟨S2x92x92, .f32⟩
  | 26 => ⟨S1x1x2x92x92, .f32⟩
  | 27 => ⟨S2x92x92, .f32⟩
  | 28 => ⟨S1x1x2x92x92, .f32⟩
  | 29 => ⟨S2x92x92, .f32⟩
  | 30 => ⟨S1x1x2x92x92, .f32⟩
  | 31 => ⟨S2x92x92, .f32⟩
  | 32 => ⟨S1x1x2x92x92, .f32⟩
  | 33 => ⟨S2x92x92, .f32⟩
  | 34 => ⟨S1x1x2x92x92, .f32⟩
  | 35 => ⟨S2x92x92, .f32⟩
  | 36 => ⟨S1x1x2x92x92, .f32⟩
  | 37 => ⟨S2x92x92, .f32⟩
  | 38 => ⟨S1x1x2x92x92, .f32⟩
  | 39 => ⟨S2x92x92, .f32⟩
  | 40 => ⟨S1x1x2x92x92, .f32⟩
  | 41 => ⟨S2x92x92, .f32⟩
  | 42 => ⟨S1x1x2x92x92, .f32⟩
  | 43 => ⟨S2x92x92, .f32⟩
  | 44 => ⟨S1x1x2x92x92, .f32⟩
  | 45 => ⟨S2x92x92, .f32⟩
  | 46 => ⟨S1x1x2x92x92, .f32⟩
  | 47 => ⟨S2x92x92, .f32⟩
  | 48 => ⟨S1x1x2x92x92, .f32⟩
  | 49 => ⟨S2x92x92, .f32⟩
  | 50 => ⟨S1x1x2x92x92, .f32⟩
  | 51 => ⟨S2x92x92, .f32⟩
  | 52 => ⟨S1x2x92x92, .f32⟩
  | 53 => ⟨S1x2x92x92, .f32⟩
  | 54 => ⟨S1x2x92x92, .f32⟩
  | 55 => ⟨S1x2x92x92, .f32⟩
  | 56 => ⟨S1x2x92x92, .f32⟩
  | 57 => ⟨S1x2x92x92, .f32⟩
  | 58 => ⟨S1x2x92x92, .f32⟩
  | 59 => ⟨S1x2x92x92, .f32⟩
  | 60 => ⟨S1x2x92x92, .f32⟩
  | 61 => ⟨S1x2x92x92, .f32⟩
  | 62 => ⟨S1x2x92x92, .f32⟩
  | 63 => ⟨S1x2x92x92, .f32⟩
  | 64 => ⟨S1x2x92x92, .f32⟩
  | 65 => ⟨S1x2x92x92, .f32⟩
  | 66 => ⟨S1x2x92x92, .f32⟩
  | 67 => ⟨S1x2x92x92, .f32⟩
  | 68 => ⟨S1x2x92x92, .f32⟩
  | 69 => ⟨S1x2x92x92, .f32⟩
  | 70 => ⟨S1x2x92x92, .f32⟩
  | 71 => ⟨S1x2x92x92, .f32⟩
  | 72 => ⟨S1x2x92x92, .f32⟩
  | 73 => ⟨S1x2x92x92, .f32⟩
  | 74 => ⟨S1x2x92x92, .f32⟩
  | 75 => ⟨S1x2x92x92, .f32⟩
  | 76 => ⟨S1x2x92x92, .f32⟩
  | 77 => ⟨S16x2x92x92, .f32⟩
  | 78 => ⟨S9x2x92x92, .f32⟩
  | 79 => ⟨S25x2x92x92, .f32⟩
  | 80 => ⟨S25x16928, .f32⟩
  | 81 => ⟨S1x1x2x92x92, .f32⟩
  | 82 => ⟨S2x92x92, .f32⟩
  | 83 => ⟨S1x1x2x92x92, .f32⟩
  | 84 => ⟨S2x92x92, .f32⟩
  | 85 => ⟨S1x1x2x92x92, .f32⟩
  | 86 => ⟨S2x92x92, .f32⟩
  | 87 => ⟨S1x1x2x92x92, .f32⟩
  | 88 => ⟨S2x92x92, .f32⟩
  | 89 => ⟨S1x1x2x92x92, .f32⟩
  | 90 => ⟨S2x92x92, .f32⟩
  | 91 => ⟨S1x1x2x92x92, .f32⟩
  | 92 => ⟨S2x92x92, .f32⟩
  | 93 => ⟨S1x1x2x92x92, .f32⟩
  | 94 => ⟨S2x92x92, .f32⟩
  | 95 => ⟨S1x1x2x92x92, .f32⟩
  | 96 => ⟨S2x92x92, .f32⟩
  | 97 => ⟨S1x1x2x92x92, .f32⟩
  | 98 => ⟨S2x92x92, .f32⟩
  | 99 => ⟨S1x1x2x92x92, .f32⟩
  | 100 => ⟨S2x92x92, .f32⟩
  | 101 => ⟨S1x1x2x92x92, .f32⟩
  | 102 => ⟨S2x92x92, .f32⟩
  | 103 => ⟨S1x1x2x92x92, .f32⟩
  | 104 => ⟨S2x92x92, .f32⟩
  | 105 => ⟨S1x1x2x92x92, .f32⟩
  | 106 => ⟨S2x92x92, .f32⟩
  | 107 => ⟨S1x1x2x92x92, .f32⟩
  | 108 => ⟨S2x92x92, .f32⟩
  | 109 => ⟨S1x1x2x92x92, .f32⟩
  | 110 => ⟨S2x92x92, .f32⟩
  | 111 => ⟨S1x1x2x92x92, .f32⟩
  | 112 => ⟨S2x92x92, .f32⟩
  | 113 => ⟨S1x1x2x92x92, .f32⟩
  | 114 => ⟨S2x92x92, .f32⟩
  | 115 => ⟨S1x1x2x92x92, .f32⟩
  | 116 => ⟨S2x92x92, .f32⟩
  | 117 => ⟨S1x1x2x92x92, .f32⟩
  | 118 => ⟨S2x92x92, .f32⟩
  | 119 => ⟨S1x1x2x92x92, .f32⟩
  | 120 => ⟨S2x92x92, .f32⟩
  | 121 => ⟨S1x1x2x92x92, .f32⟩
  | 122 => ⟨S2x92x92, .f32⟩
  | 123 => ⟨S1x1x2x92x92, .f32⟩
  | 124 => ⟨S2x92x92, .f32⟩
  | 125 => ⟨S1x1x2x92x92, .f32⟩
  | 126 => ⟨S2x92x92, .f32⟩
  | 127 => ⟨S1x1x2x92x92, .f32⟩
  | _ => ⟨S1x1x2x96x96, .f32⟩

abbrev hbmTy0_1 (i : Nat) : BufTy := match i % 128 with
  | 0 => ⟨S2x92x92, .f32⟩
  | 1 => ⟨S1x1x2x92x92, .f32⟩
  | 2 => ⟨S2x92x92, .f32⟩
  | 3 => ⟨S1x2x92x92, .f32⟩
  | 4 => ⟨S1x2x92x92, .f32⟩
  | 5 => ⟨S1x2x92x92, .f32⟩
  | 6 => ⟨S1x2x92x92, .f32⟩
  | 7 => ⟨S1x2x92x92, .f32⟩
  | 8 => ⟨S1x2x92x92, .f32⟩
  | 9 => ⟨S1x2x92x92, .f32⟩
  | 10 => ⟨S1x2x92x92, .f32⟩
  | 11 => ⟨S1x2x92x92, .f32⟩
  | 12 => ⟨S1x2x92x92, .f32⟩
  | 13 => ⟨S1x2x92x92, .f32⟩
  | 14 => ⟨S1x2x92x92, .f32⟩
  | 15 => ⟨S1x2x92x92, .f32⟩
  | 16 => ⟨S1x2x92x92, .f32⟩
  | 17 => ⟨S1x2x92x92, .f32⟩
  | 18 => ⟨S1x2x92x92, .f32⟩
  | 19 => ⟨S1x2x92x92, .f32⟩
  | 20 => ⟨S1x2x92x92, .f32⟩
  | 21 => ⟨S1x2x92x92, .f32⟩
  | 22 => ⟨S1x2x92x92, .f32⟩
  | 23 => ⟨S1x2x92x92, .f32⟩
  | 24 => ⟨S1x2x92x92, .f32⟩
  | 25 => ⟨S1x2x92x92, .f32⟩
  | 26 => ⟨S1x2x92x92, .f32⟩
  | 27 => ⟨S1x2x92x92, .f32⟩
  | 28 => ⟨S16x2x92x92, .f32⟩
  | 29 => ⟨S9x2x92x92, .f32⟩
  | 30 => ⟨S25x2x92x92, .f32⟩
  | 31 => ⟨S25x16928, .f32⟩
  | 32 => ⟨S_, .f32⟩
  | 33 => ⟨S2x16928, .f32⟩
  | 34 => ⟨S27x16928, .f32⟩
  | 35 => ⟨S27x16928, .bf16⟩
  | 36 => ⟨S_, .i32⟩
  | 37 => ⟨S_, .bf16⟩
  | 38 => ⟨S32x17408, .bf16⟩
  | 39 => ⟨S_, .i32⟩
  | 40 => ⟨S_, .f32⟩
  | 41 => ⟨S25x17408, .f32⟩
  | 42 => ⟨S25x16928, .f32⟩
  | 43 => ⟨S_, .f32⟩
  | 44 => ⟨S16928, .f32⟩
  | 45 => ⟨S_, .f32⟩
  | 46 => ⟨S480, .f32⟩
  | 47 => ⟨S17408, .f32⟩
  | 48 => ⟨S17408, .bf16⟩
  | 49 => ⟨S17408, .f32⟩
  | 50 => ⟨S17408, .f32⟩
  | 51 => ⟨S_, .f32⟩
  | 52 => ⟨S25x17408, .f32⟩
  | 53 => ⟨S25x17408, .f32⟩
  | 54 => ⟨S1x17408, .f32⟩
  | 55 => ⟨S1x17408, .f32⟩
  | 56 => ⟨S27x17408, .f32⟩
  | 57 => ⟨S27x17408, .bf16⟩
  | 58 => ⟨S_, .i32⟩
  | 59 => ⟨S_, .bf16⟩
  | 60 => ⟨S32x17408, .bf16⟩
  | 61 => ⟨S8x128, .f32⟩
  | 62 => ⟨S1x1, .f32⟩
  | 63 => ⟨S_, .f32⟩
  | _ => ⟨S1x1x2x96x96, .f32⟩

abbrev hbmTy (i : Nat) : BufTy := match i / 128 with
  | 0 => hbmTy0_0 i
  | 1 => hbmTy0_1 i
  | _ => ⟨S1x1x2x96x96, .f32⟩

abbrev bufTy : (tb : Table) → Fin (tcTables nBuf tb) → BufTy
  | .hbm, ⟨i, _⟩ => hbmTy i
  | .local _ .vmem, ⟨0, _⟩ => ⟨S32x4352, .bf16⟩
  | .local _ .vmem, ⟨1, _⟩ => ⟨S32x4352, .bf16⟩
  | .local _ .vmem, ⟨2, _⟩ => ⟨S32x17408, .bf16⟩
  | .local _ .vmem, ⟨3, _⟩ => ⟨S8x128, .f32⟩
  | _, _ => ⟨S1x1x2x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_v70 : Ref sig .tc := ⟨.hbm, 72, rfl⟩
abbrev main_v71 : Ref sig .tc := ⟨.hbm, 73, rfl⟩
abbrev main_v72 : Ref sig .tc := ⟨.hbm, 74, rfl⟩
abbrev main_v73 : Ref sig .tc := ⟨.hbm, 75, rfl⟩
abbrev main_v74 : Ref sig .tc := ⟨.hbm, 76, rfl⟩
abbrev main_v75 : Ref sig .tc := ⟨.hbm, 77, rfl⟩
abbrev main_v76 : Ref sig .tc := ⟨.hbm, 78, rfl⟩
abbrev main_v77 : Ref sig .tc := ⟨.hbm, 79, rfl⟩
abbrev main_v78 : Ref sig .tc := ⟨.hbm, 80, rfl⟩
abbrev main_v79 : Ref sig .tc := ⟨.hbm, 81, rfl⟩
abbrev main_v80 : Ref sig .tc := ⟨.hbm, 82, rfl⟩
abbrev main_v81 : Ref sig .tc := ⟨.hbm, 83, rfl⟩
abbrev main_v82 : Ref sig .tc := ⟨.hbm, 84, rfl⟩
abbrev main_v83 : Ref sig .tc := ⟨.hbm, 85, rfl⟩
abbrev main_v84 : Ref sig .tc := ⟨.hbm, 86, rfl⟩
abbrev main_v85 : Ref sig .tc := ⟨.hbm, 87, rfl⟩
abbrev main_v86 : Ref sig .tc := ⟨.hbm, 88, rfl⟩
abbrev main_v87 : Ref sig .tc := ⟨.hbm, 89, rfl⟩
abbrev main_v88 : Ref sig .tc := ⟨.hbm, 90, rfl⟩
abbrev main_v89 : Ref sig .tc := ⟨.hbm, 91, rfl⟩
abbrev main_v90 : Ref sig .tc := ⟨.hbm, 92, rfl⟩
abbrev main_v91 : Ref sig .tc := ⟨.hbm, 93, rfl⟩
abbrev main_v92 : Ref sig .tc := ⟨.hbm, 94, rfl⟩
abbrev main_v93 : Ref sig .tc := ⟨.hbm, 95, rfl⟩
abbrev main_v94 : Ref sig .tc := ⟨.hbm, 96, rfl⟩
abbrev main_v95 : Ref sig .tc := ⟨.hbm, 97, rfl⟩
abbrev main_v96 : Ref sig .tc := ⟨.hbm, 98, rfl⟩
abbrev main_v97 : Ref sig .tc := ⟨.hbm, 99, rfl⟩
abbrev main_v98 : Ref sig .tc := ⟨.hbm, 100, rfl⟩
abbrev main_v99 : Ref sig .tc := ⟨.hbm, 101, rfl⟩
abbrev main_v100 : Ref sig .tc := ⟨.hbm, 102, rfl⟩
abbrev main_v101 : Ref sig .tc := ⟨.hbm, 103, rfl⟩
abbrev main_v102 : Ref sig .tc := ⟨.hbm, 104, rfl⟩
abbrev main_v103 : Ref sig .tc := ⟨.hbm, 105, rfl⟩
abbrev main_v104 : Ref sig .tc := ⟨.hbm, 106, rfl⟩
abbrev main_v105 : Ref sig .tc := ⟨.hbm, 107, rfl⟩
abbrev main_v106 : Ref sig .tc := ⟨.hbm, 108, rfl⟩
abbrev main_v107 : Ref sig .tc := ⟨.hbm, 109, rfl⟩
abbrev main_v108 : Ref sig .tc := ⟨.hbm, 110, rfl⟩
abbrev main_v109 : Ref sig .tc := ⟨.hbm, 111, rfl⟩
abbrev main_v110 : Ref sig .tc := ⟨.hbm, 112, rfl⟩
abbrev main_v111 : Ref sig .tc := ⟨.hbm, 113, rfl⟩
abbrev main_v112 : Ref sig .tc := ⟨.hbm, 114, rfl⟩
abbrev main_v113 : Ref sig .tc := ⟨.hbm, 115, rfl⟩
abbrev main_v114 : Ref sig .tc := ⟨.hbm, 116, rfl⟩
abbrev main_v115 : Ref sig .tc := ⟨.hbm, 117, rfl⟩
abbrev main_v116 : Ref sig .tc := ⟨.hbm, 118, rfl⟩
abbrev main_v117 : Ref sig .tc := ⟨.hbm, 119, rfl⟩
abbrev main_v118 : Ref sig .tc := ⟨.hbm, 120, rfl⟩
abbrev main_v119 : Ref sig .tc := ⟨.hbm, 121, rfl⟩
abbrev main_v120 : Ref sig .tc := ⟨.hbm, 122, rfl⟩
abbrev main_v121 : Ref sig .tc := ⟨.hbm, 123, rfl⟩
abbrev main_v122 : Ref sig .tc := ⟨.hbm, 124, rfl⟩
abbrev main_v123 : Ref sig .tc := ⟨.hbm, 125, rfl⟩
abbrev main_v124 : Ref sig .tc := ⟨.hbm, 126, rfl⟩
abbrev main_v125 : Ref sig .tc := ⟨.hbm, 127, rfl⟩
abbrev main_v126 : Ref sig .tc := ⟨.hbm, 128, rfl⟩
abbrev main_v127 : Ref sig .tc := ⟨.hbm, 129, rfl⟩
abbrev main_v128 : Ref sig .tc := ⟨.hbm, 130, rfl⟩
abbrev main_v129 : Ref sig .tc := ⟨.hbm, 131, rfl⟩
abbrev main_v130 : Ref sig .tc := ⟨.hbm, 132, rfl⟩
abbrev main_v131 : Ref sig .tc := ⟨.hbm, 133, rfl⟩
abbrev main_v132 : Ref sig .tc := ⟨.hbm, 134, rfl⟩
abbrev main_v133 : Ref sig .tc := ⟨.hbm, 135, rfl⟩
abbrev main_v134 : Ref sig .tc := ⟨.hbm, 136, rfl⟩
abbrev main_v135 : Ref sig .tc := ⟨.hbm, 137, rfl⟩
abbrev main_v136 : Ref sig .tc := ⟨.hbm, 138, rfl⟩
abbrev main_v137 : Ref sig .tc := ⟨.hbm, 139, rfl⟩
abbrev main_v138 : Ref sig .tc := ⟨.hbm, 140, rfl⟩
abbrev main_v139 : Ref sig .tc := ⟨.hbm, 141, rfl⟩
abbrev main_v140 : Ref sig .tc := ⟨.hbm, 142, rfl⟩
abbrev main_v141 : Ref sig .tc := ⟨.hbm, 143, rfl⟩
abbrev main_v142 : Ref sig .tc := ⟨.hbm, 144, rfl⟩
abbrev main_v143 : Ref sig .tc := ⟨.hbm, 145, rfl⟩
abbrev main_v144 : Ref sig .tc := ⟨.hbm, 146, rfl⟩
abbrev main_v145 : Ref sig .tc := ⟨.hbm, 147, rfl⟩
abbrev main_v146 : Ref sig .tc := ⟨.hbm, 148, rfl⟩
abbrev main_v147 : Ref sig .tc := ⟨.hbm, 149, rfl⟩
abbrev main_v148 : Ref sig .tc := ⟨.hbm, 150, rfl⟩
abbrev main_v149 : Ref sig .tc := ⟨.hbm, 151, rfl⟩
abbrev main_v150 : Ref sig .tc := ⟨.hbm, 152, rfl⟩
abbrev main_v151 : Ref sig .tc := ⟨.hbm, 153, rfl⟩
abbrev main_v152 : Ref sig .tc := ⟨.hbm, 154, rfl⟩
abbrev main_v153 : Ref sig .tc := ⟨.hbm, 155, rfl⟩
abbrev main_v154 : Ref sig .tc := ⟨.hbm, 156, rfl⟩
abbrev main_v155 : Ref sig .tc := ⟨.hbm, 157, rfl⟩
abbrev main_v156 : Ref sig .tc := ⟨.hbm, 158, rfl⟩
abbrev main_v157 : Ref sig .tc := ⟨.hbm, 159, rfl⟩
abbrev main_cst : Ref sig .tc := ⟨.hbm, 160, rfl⟩
abbrev main_v158 : Ref sig .tc := ⟨.hbm, 161, rfl⟩
abbrev main_v159 : Ref sig .tc := ⟨.hbm, 162, rfl⟩
abbrev main_v160 : Ref sig .tc := ⟨.hbm, 163, rfl⟩
abbrev main_c : Ref sig .tc := ⟨.hbm, 164, rfl⟩
abbrev main_call0_v0 : Ref sig .tc := ⟨.hbm, 165, rfl⟩
abbrev main_v161 : Ref sig .tc := ⟨.hbm, 166, rfl⟩
abbrev main_c_0 : Ref sig .tc := ⟨.hbm, 167, rfl⟩
abbrev main_call1_v0 : Ref sig .tc := ⟨.hbm, 168, rfl⟩
abbrev main_v162 : Ref sig .tc := ⟨.hbm, 169, rfl⟩
abbrev main_v163 : Ref sig .tc := ⟨.hbm, 170, rfl⟩
abbrev main_cst_1 : Ref sig .tc := ⟨.hbm, 171, rfl⟩
abbrev main_v164 : Ref sig .tc := ⟨.hbm, 172, rfl⟩
abbrev main_cst_2 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_cst_3 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_c_4 : Ref sig .tc := ⟨.hbm, 186, rfl⟩
abbrev main_call2_v0 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x4352 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x17408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S1x1x2x96x96 : Shape := ⟨5, ![1, 1, 2, 96, 96]⟩
abbrev S1x1x2x92x92 : Shape := ⟨5, ![1, 1, 2, 92, 92]⟩
abbrev S1x2x92x92 : Shape := ⟨4, ![1, 2, 92, 92]⟩
abbrev S16x1x2x92x92 : Shape := ⟨5, ![16, 1, 2, 92, 92]⟩
abbrev S9x1x2x92x92 : Shape := ⟨5, ![9, 1, 2, 92, 92]⟩
abbrev S25x1x2x92x92 : Shape := ⟨5, ![25, 1, 2, 92, 92]⟩
abbrev S25x16928 : Shape := ⟨2, ![25, 16928]⟩
abbrev S16928x25 : Shape := ⟨2, ![16928, 25]⟩
abbrev S_ : Shape := ⟨0, ![]⟩
abbrev S16928 : Shape := ⟨1, ![16928]⟩
abbrev S16928x1 : Shape := ⟨2, ![16928, 1]⟩
abbrev S16928x16928 : Shape := ⟨2, ![16928, 16928]⟩
abbrev S1x16928 : Shape := ⟨2, ![1, 16928]⟩
abbrev S1 : Shape := ⟨1, ![1]⟩
abbrev S1x1 : Shape := ⟨2, ![1, 1]⟩

abbrev nBuf : Space → Nat
  | .hbm => 211
  | .vmem => 0
  | .smem => 0
  | _ => 0

abbrev hbmTy0_0 (i : Nat) : BufTy := match i % 128 with
  | 0 => ⟨S1x1x2x96x96, .f32⟩
  | 1 => ⟨S1x1x2x96x96, .f32⟩
  | 2 => ⟨S1x1x2x92x92, .f32⟩
  | 3 => ⟨S1x2x92x92, .f32⟩
  | 4 => ⟨S1x1x2x92x92, .f32⟩
  | 5 => ⟨S1x2x92x92, .f32⟩
  | 6 => ⟨S1x1x2x92x92, .f32⟩
  | 7 => ⟨S1x2x92x92, .f32⟩
  | 8 => ⟨S1x1x2x92x92, .f32⟩
  | 9 => ⟨S1x2x92x92, .f32⟩
  | 10 => ⟨S1x1x2x92x92, .f32⟩
  | 11 => ⟨S1x2x92x92, .f32⟩
  | 12 => ⟨S1x1x2x92x92, .f32⟩
  | 13 => ⟨S1x2x92x92, .f32⟩
  | 14 => ⟨S1x1x2x92x92, .f32⟩
  | 15 => ⟨S1x2x92x92, .f32⟩
  | 16 => ⟨S1x1x2x92x92, .f32⟩
  | 17 => ⟨S1x2x92x92, .f32⟩
  | 18 => ⟨S1x1x2x92x92, .f32⟩
  | 19 => ⟨S1x2x92x92, .f32⟩
  | 20 => ⟨S1x1x2x92x92, .f32⟩
  | 21 => ⟨S1x2x92x92, .f32⟩
  | 22 => ⟨S1x1x2x92x92, .f32⟩
  | 23 => ⟨S1x2x92x92, .f32⟩
  | 24 => ⟨S1x1x2x92x92, .f32⟩
  | 25 => ⟨S1x2x92x92, .f32⟩
  | 26 => ⟨S1x1x2x92x92, .f32⟩
  | 27 => ⟨S1x2x92x92, .f32⟩
  | 28 => ⟨S1x1x2x92x92, .f32⟩
  | 29 => ⟨S1x2x92x92, .f32⟩
  | 30 => ⟨S1x1x2x92x92, .f32⟩
  | 31 => ⟨S1x2x92x92, .f32⟩
  | 32 => ⟨S1x1x2x92x92, .f32⟩
  | 33 => ⟨S1x2x92x92, .f32⟩
  | 34 => ⟨S1x1x2x92x92, .f32⟩
  | 35 => ⟨S1x2x92x92, .f32⟩
  | 36 => ⟨S1x1x2x92x92, .f32⟩
  | 37 => ⟨S1x2x92x92, .f32⟩
  | 38 => ⟨S1x1x2x92x92, .f32⟩
  | 39 => ⟨S1x2x92x92, .f32⟩
  | 40 => ⟨S1x1x2x92x92, .f32⟩
  | 41 => ⟨S1x2x92x92, .f32⟩
  | 42 => ⟨S1x1x2x92x92, .f32⟩
  | 43 => ⟨S1x2x92x92, .f32⟩
  | 44 => ⟨S1x1x2x92x92, .f32⟩
  | 45 => ⟨S1x2x92x92, .f32⟩
  | 46 => ⟨S1x1x2x92x92, .f32⟩
  | 47 => ⟨S1x2x92x92, .f32⟩
  | 48 => ⟨S1x1x2x92x92, .f32⟩
  | 49 => ⟨S1x2x92x92, .f32⟩
  | 50 => ⟨S1x1x2x92x92, .f32⟩
  | 51 => ⟨S1x2x92x92, .f32⟩
  | 52 => ⟨S1x1x2x92x92, .f32⟩
  | 53 => ⟨S1x1x2x92x92, .f32⟩
  | 54 => ⟨S1x1x2x92x92, .f32⟩
  | 55 => ⟨S1x1x2x92x92, .f32⟩
  | 56 => ⟨S1x1x2x92x92, .f32⟩
  | 57 => ⟨S1x1x2x92x92, .f32⟩
  | 58 => ⟨S1x1x2x92x92, .f32⟩
  | 59 => ⟨S1x1x2x92x92, .f32⟩
  | 60 => ⟨S1x1x2x92x92, .f32⟩
  | 61 => ⟨S1x1x2x92x92, .f32⟩
  | 62 => ⟨S1x1x2x92x92, .f32⟩
  | 63 => ⟨S1x1x2x92x92, .f32⟩
  | 64 => ⟨S1x1x2x92x92, .f32⟩
  | 65 => ⟨S1x1x2x92x92, .f32⟩
  | 66 => ⟨S1x1x2x92x92, .f32⟩
  | 67 => ⟨S1x1x2x92x92, .f32⟩
  | 68 => ⟨S1x1x2x92x92, .f32⟩
  | 69 => ⟨S1x1x2x92x92, .f32⟩
  | 70 => ⟨S1x1x2x92x92, .f32⟩
  | 71 => ⟨S1x1x2x92x92, .f32⟩
  | 72 => ⟨S1x1x2x92x92, .f32⟩
  | 73 => ⟨S1x1x2x92x92, .f32⟩
  | 74 => ⟨S1x1x2x92x92, .f32⟩
  | 75 => ⟨S1x1x2x92x92, .f32⟩
  | 76 => ⟨S1x1x2x92x92, .f32⟩
  | 77 => ⟨S16x1x2x92x92, .f32⟩
  | 78 => ⟨S9x1x2x92x92, .f32⟩
  | 79 => ⟨S25x1x2x92x92, .f32⟩
  | 80 => ⟨S25x16928, .f32⟩
  | 81 => ⟨S16928x25, .f32⟩
  | 82 => ⟨S1x1x2x92x92, .f32⟩
  | 83 => ⟨S1x2x92x92, .f32⟩
  | 84 => ⟨S1x1x2x92x92, .f32⟩
  | 85 => ⟨S1x2x92x92, .f32⟩
  | 86 => ⟨S1x1x2x92x92, .f32⟩
  | 87 => ⟨S1x2x92x92, .f32⟩
  | 88 => ⟨S1x1x2x92x92, .f32⟩
  | 89 => ⟨S1x2x92x92, .f32⟩
  | 90 => ⟨S1x1x2x92x92, .f32⟩
  | 91 => ⟨S1x2x92x92, .f32⟩
  | 92 => ⟨S1x1x2x92x92, .f32⟩
  | 93 => ⟨S1x2x92x92, .f32⟩
  | 94 => ⟨S1x1x2x92x92, .f32⟩
  | 95 => ⟨S1x2x92x92, .f32⟩
  | 96 => ⟨S1x1x2x92x92, .f32⟩
  | 97 => ⟨S1x2x92x92, .f32⟩
  | 98 => ⟨S1x1x2x92x92, .f32⟩
  | 99 => ⟨S1x2x92x92, .f32⟩
  | 100 => ⟨S1x1x2x92x92, .f32⟩
  | 101 => ⟨S1x2x92x92, .f32⟩
  | 102 => ⟨S1x1x2x92x92, .f32⟩
  | 103 => ⟨S1x2x92x92, .f32⟩
  | 104 => ⟨S1x1x2x92x92, .f32⟩
  | 105 => ⟨S1x2x92x92, .f32⟩
  | 106 => ⟨S1x1x2x92x92, .f32⟩
  | 107 => ⟨S1x2x92x92, .f32⟩
  | 108 => ⟨S1x1x2x92x92, .f32⟩
  | 109 => ⟨S1x2x92x92, .f32⟩
  | 110 => ⟨S1x1x2x92x92, .f32⟩
  | 111 => ⟨S1x2x92x92, .f32⟩
  | 112 => ⟨S1x1x2x92x92, .f32⟩
  | 113 => ⟨S1x2x92x92, .f32⟩
  | 114 => ⟨S1x1x2x92x92, .f32⟩
  | 115 => ⟨S1x2x92x92, .f32⟩
  | 116 => ⟨S1x1x2x92x92, .f32⟩
  | 117 => ⟨S1x2x92x92, .f32⟩
  | 118 => ⟨S1x1x2x92x92, .f32⟩
  | 119 => ⟨S1x2x92x92, .f32⟩
  | 120 => ⟨S1x1x2x92x92, .f32⟩
  | 121 => ⟨S1x2x92x92, .f32⟩
  | 122 => ⟨S1x1x2x92x92, .f32⟩
  | 123 => ⟨S1x2x92x92, .f32⟩
  | 124 => ⟨S1x1x2x92x92, .f32⟩
  | 125 => ⟨S1x2x92x92, .f32⟩
  | 126 => ⟨S1x1x2x92x92, .f32⟩
  | 127 => ⟨S1x2x92x92, .f32⟩
  | _ => ⟨S1x1x2x96x96, .f32⟩

abbrev hbmTy0_1 (i : Nat) : BufTy := match i % 128 with
  | 0 => ⟨S1x1x2x92x92, .f32⟩
  | 1 => ⟨S1x2x92x92, .f32⟩
  | 2 => ⟨S1x1x2x92x92, .f32⟩
  | 3 => ⟨S1x2x92x92, .f32⟩
  | 4 => ⟨S1x1x2x92x92, .f32⟩
  | 5 => ⟨S1x1x2x92x92, .f32⟩
  | 6 => ⟨S1x1x2x92x92, .f32⟩
  | 7 => ⟨S1x1x2x92x92, .f32⟩
  | 8 => ⟨S1x1x2x92x92, .f32⟩
  | 9 => ⟨S1x1x2x92x92, .f32⟩
  | 10 => ⟨S1x1x2x92x92, .f32⟩
  | 11 => ⟨S1x1x2x92x92, .f32⟩
  | 12 => ⟨S1x1x2x92x92, .f32⟩
  | 13 => ⟨S1x1x2x92x92, .f32⟩
  | 14 => ⟨S1x1x2x92x92, .f32⟩
  | 15 => ⟨S1x1x2x92x92, .f32⟩
  | 16 => ⟨S1x1x2x92x92, .f32⟩
  | 17 => ⟨S1x1x2x92x92, .f32⟩
  | 18 => ⟨S1x1x2x92x92, .f32⟩
  | 19 => ⟨S1x1x2x92x92, .f32⟩
  | 20 => ⟨S1x1x2x92x92, .f32⟩
  | 21 => ⟨S1x1x2x92x92, .f32⟩
  | 22 => ⟨S1x1x2x92x92, .f32⟩
  | 23 => ⟨S1x1x2x92x92, .f32⟩
  | 24 => ⟨S1x1x2x92x92, .f32⟩
  | 25 => ⟨S1x1x2x92x92, .f32⟩
  | 26 => ⟨S1x1x2x92x92, .f32⟩
  | 27 => ⟨S1x1x2x92x92, .f32⟩
  | 28 => ⟨S1x1x2x92x92, .f32⟩
  | 29 => ⟨S16x1x2x92x92, .f32⟩
  | 30 => ⟨S9x1x2x92x92, .f32⟩
  | 31 => ⟨S25x1x2x92x92, .f32⟩
  | 32 => ⟨S25x16928, .f32⟩
  | 33 => ⟨S16928x25, .f32⟩
  | 34 => ⟨S16928x25, .f32⟩
  | 35 => ⟨S_, .f32⟩
  | 36 => ⟨S16928, .f32⟩
  | 37 => ⟨S16928x25, .f32⟩
  | 38 => ⟨S_, .f32⟩
  | 39 => ⟨S16928, .f32⟩
  | 40 => ⟨S16928x1, .f32⟩
  | 41 => ⟨S25x16928, .f32⟩
  | 42 => ⟨S16928x16928, .f32⟩
  | 43 => ⟨S_, .f32⟩
  | 44 => ⟨S16928x16928, .f32⟩
  | 45 => ⟨S16928x16928, .f32⟩
  | 46 => ⟨S16928x16928, .f32⟩
  | 47 => ⟨S16928x16928, .f32⟩
  | 48 => ⟨S1x16928, .f32⟩
  | 49 => ⟨S16928x16928, .f32⟩
  | 50 => ⟨S16928x16928, .f32⟩
  | 51 => ⟨S16928x16928, .i32⟩
  | 52 => ⟨S_, .f32⟩
  | 53 => ⟨S_, .i32⟩
  | 54 => ⟨S16928, .f32⟩
  | 55 => ⟨S16928, .i32⟩
  | 56 => ⟨S_, .i32⟩
  | 57 => ⟨S16928, .i32⟩
  | 58 => ⟨S16928, .i1⟩
  | 59 => ⟨S_, .i32⟩
  | 60 => ⟨S16928, .i32⟩
  | 61 => ⟨S16928, .i32⟩
  | 62 => ⟨S16928, .i32⟩
  | 63 => ⟨S16928x1, .i32⟩
  | 64 => ⟨S1, .i32⟩
  | 65 => ⟨S_, .i32⟩
  | 66 => ⟨S16928x1, .i32⟩
  | 67 => ⟨S16928x1, .i1⟩
  | 68 => ⟨S1x1, .i32⟩
  | 69 => ⟨S16928x1, .i32⟩
  | 70 => ⟨S16928x1, .i1⟩
  | 71 => ⟨S16928x1, .i1⟩
  | 72 => ⟨S_, .i1⟩
  | 73 => ⟨S16928, .i1⟩
  | 74 => ⟨S16928x25, .f32⟩
  | 75 => ⟨S16928x25, .i1⟩
  | 76 => ⟨S_, .f32⟩
  | 77 => ⟨S16928x25, .f32⟩
  | 78 => ⟨S16928x25, .f32⟩
  | 79 => ⟨S16928x25, .f32⟩
  | 80 => ⟨S16928x25, .f32⟩
  | 81 => ⟨S_, .f32⟩
  | 82 => ⟨S_, .f32⟩
  | _ => ⟨S1x1x2x96x96, .f32⟩

abbrev hbmTy (i : Nat) : BufTy := match i / 128 with
  | 0 => hbmTy0_0 i
  | 1 => hbmTy0_1 i
  | _ => ⟨S1x1x2x96x96, .f32⟩

abbrev bufTy : (tb : Table) → Fin (tcTables nBuf tb) → BufTy
  | .hbm, ⟨i, _⟩ => hbmTy i
  | _, _ => ⟨S1x1x2x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_v70 : Ref sig .tc := ⟨.hbm, 72, rfl⟩
abbrev main_v71 : Ref sig .tc := ⟨.hbm, 73, rfl⟩
abbrev main_v72 : Ref sig .tc := ⟨.hbm, 74, rfl⟩
abbrev main_v73 : Ref sig .tc := ⟨.hbm, 75, rfl⟩
abbrev main_v74 : Ref sig .tc := ⟨.hbm, 76, rfl⟩
abbrev main_v75 : Ref sig .tc := ⟨.hbm, 77, rfl⟩
abbrev main_v76 : Ref sig .tc := ⟨.hbm, 78, rfl⟩
abbrev main_v77 : Ref sig .tc := ⟨.hbm, 79, rfl⟩
abbrev main_v78 : Ref sig .tc := ⟨.hbm, 80, rfl⟩
abbrev main_v79 : Ref sig .tc := ⟨.hbm, 81, rfl⟩
abbrev main_v80 : Ref sig .tc := ⟨.hbm, 82, rfl⟩
abbrev main_v81 : Ref sig .tc := ⟨.hbm, 83, rfl⟩
abbrev main_v82 : Ref sig .tc := ⟨.hbm, 84, rfl⟩
abbrev main_v83 : Ref sig .tc := ⟨.hbm, 85, rfl⟩
abbrev main_v84 : Ref sig .tc := ⟨.hbm, 86, rfl⟩
abbrev main_v85 : Ref sig .tc := ⟨.hbm, 87, rfl⟩
abbrev main_v86 : Ref sig .tc := ⟨.hbm, 88, rfl⟩
abbrev main_v87 : Ref sig .tc := ⟨.hbm, 89, rfl⟩
abbrev main_v88 : Ref sig .tc := ⟨.hbm, 90, rfl⟩
abbrev main_v89 : Ref sig .tc := ⟨.hbm, 91, rfl⟩
abbrev main_v90 : Ref sig .tc := ⟨.hbm, 92, rfl⟩
abbrev main_v91 : Ref sig .tc := ⟨.hbm, 93, rfl⟩
abbrev main_v92 : Ref sig .tc := ⟨.hbm, 94, rfl⟩
abbrev main_v93 : Ref sig .tc := ⟨.hbm, 95, rfl⟩
abbrev main_v94 : Ref sig .tc := ⟨.hbm, 96, rfl⟩
abbrev main_v95 : Ref sig .tc := ⟨.hbm, 97, rfl⟩
abbrev main_v96 : Ref sig .tc := ⟨.hbm, 98, rfl⟩
abbrev main_v97 : Ref sig .tc := ⟨.hbm, 99, rfl⟩
abbrev main_v98 : Ref sig .tc := ⟨.hbm, 100, rfl⟩
abbrev main_v99 : Ref sig .tc := ⟨.hbm, 101, rfl⟩
abbrev main_v100 : Ref sig .tc := ⟨.hbm, 102, rfl⟩
abbrev main_v101 : Ref sig .tc := ⟨.hbm, 103, rfl⟩
abbrev main_v102 : Ref sig .tc := ⟨.hbm, 104, rfl⟩
abbrev main_v103 : Ref sig .tc := ⟨.hbm, 105, rfl⟩
abbrev main_v104 : Ref sig .tc := ⟨.hbm, 106, rfl⟩
abbrev main_v105 : Ref sig .tc := ⟨.hbm, 107, rfl⟩
abbrev main_v106 : Ref sig .tc := ⟨.hbm, 108, rfl⟩
abbrev main_v107 : Ref sig .tc := ⟨.hbm, 109, rfl⟩
abbrev main_v108 : Ref sig .tc := ⟨.hbm, 110, rfl⟩
abbrev main_v109 : Ref sig .tc := ⟨.hbm, 111, rfl⟩
abbrev main_v110 : Ref sig .tc := ⟨.hbm, 112, rfl⟩
abbrev main_v111 : Ref sig .tc := ⟨.hbm, 113, rfl⟩
abbrev main_v112 : Ref sig .tc := ⟨.hbm, 114, rfl⟩
abbrev main_v113 : Ref sig .tc := ⟨.hbm, 115, rfl⟩
abbrev main_v114 : Ref sig .tc := ⟨.hbm, 116, rfl⟩
abbrev main_v115 : Ref sig .tc := ⟨.hbm, 117, rfl⟩
abbrev main_v116 : Ref sig .tc := ⟨.hbm, 118, rfl⟩
abbrev main_v117 : Ref sig .tc := ⟨.hbm, 119, rfl⟩
abbrev main_v118 : Ref sig .tc := ⟨.hbm, 120, rfl⟩
abbrev main_v119 : Ref sig .tc := ⟨.hbm, 121, rfl⟩
abbrev main_v120 : Ref sig .tc := ⟨.hbm, 122, rfl⟩
abbrev main_v121 : Ref sig .tc := ⟨.hbm, 123, rfl⟩
abbrev main_v122 : Ref sig .tc := ⟨.hbm, 124, rfl⟩
abbrev main_v123 : Ref sig .tc := ⟨.hbm, 125, rfl⟩
abbrev main_v124 : Ref sig .tc := ⟨.hbm, 126, rfl⟩
abbrev main_v125 : Ref sig .tc := ⟨.hbm, 127, rfl⟩
abbrev main_v126 : Ref sig .tc := ⟨.hbm, 128, rfl⟩
abbrev main_v127 : Ref sig .tc := ⟨.hbm, 129, rfl⟩
abbrev main_v128 : Ref sig .tc := ⟨.hbm, 130, rfl⟩
abbrev main_v129 : Ref sig .tc := ⟨.hbm, 131, rfl⟩
abbrev main_v130 : Ref sig .tc := ⟨.hbm, 132, rfl⟩
abbrev main_v131 : Ref sig .tc := ⟨.hbm, 133, rfl⟩
abbrev main_v132 : Ref sig .tc := ⟨.hbm, 134, rfl⟩
abbrev main_v133 : Ref sig .tc := ⟨.hbm, 135, rfl⟩
abbrev main_v134 : Ref sig .tc := ⟨.hbm, 136, rfl⟩
abbrev main_v135 : Ref sig .tc := ⟨.hbm, 137, rfl⟩
abbrev main_v136 : Ref sig .tc := ⟨.hbm, 138, rfl⟩
abbrev main_v137 : Ref sig .tc := ⟨.hbm, 139, rfl⟩
abbrev main_v138 : Ref sig .tc := ⟨.hbm, 140, rfl⟩
abbrev main_v139 : Ref sig .tc := ⟨.hbm, 141, rfl⟩
abbrev main_v140 : Ref sig .tc := ⟨.hbm, 142, rfl⟩
abbrev main_v141 : Ref sig .tc := ⟨.hbm, 143, rfl⟩
abbrev main_v142 : Ref sig .tc := ⟨.hbm, 144, rfl⟩
abbrev main_v143 : Ref sig .tc := ⟨.hbm, 145, rfl⟩
abbrev main_v144 : Ref sig .tc := ⟨.hbm, 146, rfl⟩
abbrev main_v145 : Ref sig .tc := ⟨.hbm, 147, rfl⟩
abbrev main_v146 : Ref sig .tc := ⟨.hbm, 148, rfl⟩
abbrev main_v147 : Ref sig .tc := ⟨.hbm, 149, rfl⟩
abbrev main_v148 : Ref sig .tc := ⟨.hbm, 150, rfl⟩
abbrev main_v149 : Ref sig .tc := ⟨.hbm, 151, rfl⟩
abbrev main_v150 : Ref sig .tc := ⟨.hbm, 152, rfl⟩
abbrev main_v151 : Ref sig .tc := ⟨.hbm, 153, rfl⟩
abbrev main_v152 : Ref sig .tc := ⟨.hbm, 154, rfl⟩
abbrev main_v153 : Ref sig .tc := ⟨.hbm, 155, rfl⟩
abbrev main_v154 : Ref sig .tc := ⟨.hbm, 156, rfl⟩
abbrev main_v155 : Ref sig .tc := ⟨.hbm, 157, rfl⟩
abbrev main_v156 : Ref sig .tc := ⟨.hbm, 158, rfl⟩
abbrev main_v157 : Ref sig .tc := ⟨.hbm, 159, rfl⟩
abbrev main_v158 : Ref sig .tc := ⟨.hbm, 160, rfl⟩
abbrev main_v159 : Ref sig .tc := ⟨.hbm, 161, rfl⟩
abbrev main_v160 : Ref sig .tc := ⟨.hbm, 162, rfl⟩
abbrev main_cst : Ref sig .tc := ⟨.hbm, 163, rfl⟩
abbrev main_v161 : Ref sig .tc := ⟨.hbm, 164, rfl⟩
abbrev main_v162 : Ref sig .tc := ⟨.hbm, 165, rfl⟩
abbrev main_cst_0 : Ref sig .tc := ⟨.hbm, 166, rfl⟩
abbrev main_v163 : Ref sig .tc := ⟨.hbm, 167, rfl⟩
abbrev main_v164 : Ref sig .tc := ⟨.hbm, 168, rfl⟩
abbrev main_v165 : Ref sig .tc := ⟨.hbm, 169, rfl⟩
abbrev main_v166 : Ref sig .tc := ⟨.hbm, 170, rfl⟩
abbrev main_cst_1 : Ref sig .tc := ⟨.hbm, 171, rfl⟩
abbrev main_v167 : Ref sig .tc := ⟨.hbm, 172, rfl⟩
abbrev main_v168 : Ref sig .tc := ⟨.hbm, 173, rfl⟩
abbrev main_v169 : Ref sig .tc := ⟨.hbm, 174, rfl⟩
abbrev main_v170 : Ref sig .tc := ⟨.hbm, 175, rfl⟩
abbrev main_v171 : Ref sig .tc := ⟨.hbm, 176, rfl⟩
abbrev main_v172 : Ref sig .tc := ⟨.hbm, 177, rfl⟩
abbrev main_v173 : Ref sig .tc := ⟨.hbm, 178, rfl⟩
abbrev main_call0_v0 : Ref sig .tc := ⟨.hbm, 179, rfl⟩
abbrev main_call0_cst : Ref sig .tc := ⟨.hbm, 180, rfl⟩
abbrev main_call0_c : Ref sig .tc := ⟨.hbm, 181, rfl⟩
abbrev main_call0_v1_0 : Ref sig .tc := ⟨.hbm, 182, rfl⟩
abbrev main_v174 : Ref sig .tc := ⟨.hbm, 183, rfl⟩
abbrev main_call1_c : Ref sig .tc := ⟨.hbm, 184, rfl⟩
abbrev main_call1_v0 : Ref sig .tc := ⟨.hbm, 185, rfl⟩
abbrev main_call1_v1 : Ref sig .tc := ⟨.hbm, 186, rfl⟩
abbrev main_call1_c_0 : Ref sig .tc := ⟨.hbm, 187, rfl⟩
abbrev main_call1_v2 : Ref sig .tc := ⟨.hbm, 188, rfl⟩
abbrev main_call1_v3 : Ref sig .tc := ⟨.hbm, 189, rfl⟩
abbrev main_call1_v4 : Ref sig .tc := ⟨.hbm, 190, rfl⟩
abbrev main_call1_v5 : Ref sig .tc := ⟨.hbm, 191, rfl⟩
abbrev main_call1_c_1 : Ref sig .tc := ⟨.hbm, 192, rfl⟩
abbrev main_call1_c_2 : Ref sig .tc := ⟨.hbm, 193, rfl⟩
abbrev main_call1_v6 : Ref sig .tc := ⟨.hbm, 194, rfl⟩
abbrev main_call1_v7 : Ref sig .tc := ⟨.hbm, 195, rfl⟩
abbrev main_call1_v8 : Ref sig .tc := ⟨.hbm, 196, rfl⟩
abbrev main_call1_v9 : Ref sig .tc := ⟨.hbm, 197, rfl⟩
abbrev main_call1_v10 : Ref sig .tc := ⟨.hbm, 198, rfl⟩
abbrev main_call1_v11 : Ref sig .tc := ⟨.hbm, 199, rfl⟩
abbrev main_call1_c_3 : Ref sig .tc := ⟨.hbm, 200, rfl⟩
abbrev main_call1_v12 : Ref sig .tc := ⟨.hbm, 201, rfl⟩
abbrev main_call1_v13 : Ref sig .tc := ⟨.hbm, 202, rfl⟩
abbrev main_call1_v14 : Ref sig .tc := ⟨.hbm, 203, rfl⟩
abbrev main_call1_cst : Ref sig .tc := ⟨.hbm, 204, rfl⟩
abbrev main_call1_v15 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_cst_2 : Ref sig .tc := ⟨.hbm, 209, rfl⟩
abbrev main_v178 : Ref sig .tc := ⟨.hbm, 210, rfl⟩

abbrev nD : Nat := 1
abbrev τ : Topo := Topo.v7x

variable {F : FTy → Type} [FloatOps F]
-- ==== Proof.KernelOut.lean ====
/- Hand-written, untrusted: what one run of the kernel's body leaves in the output block, as a plain expression. -/
module

public import proofs.«01_k».proof.Proof.Gen.KernelIdeal.Frame
public import Idealize.ShloMosaic.Lib.Pipeline.Value

@[expose] public section

set_option maxRecDepth 16384

noncomputable section

namespace Cert.KernelIdeal.Out

open Idealize.ShloMosaic Idealize.ShloMosaic.TcCoe Idealize.SL.Sem
open Cert.KernelIdeal Cert.KernelIdeal.Gen

variable {F : FTy → Type} [FloatOps F]

/-- The products of one tile of query columns with one chunk of 1024 searched columns. -/
def dots (q : FVec F S32x4352 .bf16) (k : Vec F S32x1024 .bf16) : FVec F S4352x1024 .f32 :=
  matmul dot_S32x4352_S32x1024_S4352x1024_0_0_1_1_n_n none q
    (shapeCast S32x1024 k shapeCasts_S32x1024_S32x1024) (constant S4352x1024 .f32 0x00000000#32)

/-- The smaller of the eight groups of 128 lanes, lane by lane. -/
def fold8 (d : FVec F S4352x1024 .f32) : FVec F S4352x128 .f32 :=
  minimumf (minimumf (minimumf (minimumf (minimumf (minimumf (minimumf
    (extractStridedSlice S4352x128 ![0, 0] d slices_S4352x1024_o0_0_S4352x128)
    (extractStridedSlice S4352x128 ![0, 128] d slices_S4352x1024_o0_128_S4352x128))
    (extractStridedSlice S4352x128 ![0, 256] d slices_S4352x1024_o0_256_S4352x128))
    (extractStridedSlice S4352x128 ![0, 384] d slices_S4352x1024_o0_384_S4352x128))
    (extractStridedSlice S4352x128 ![0, 512] d slices_S4352x1024_o0_512_S4352x128))
    (extractStridedSlice S4352x128 ![0, 640] d slices_S4352x1024_o0_640_S4352x128))
    (extractStridedSlice S4352x128 ![0, 768] d slices_S4352x1024_o0_768_S4352x128))
    (extractStridedSlice S4352x128 ![0, 896] d slices_S4352x1024_o0_896_S4352x128)

/-- Chunk `j` of the searched columns lies inside the array. -/
theorem chunk_inb (j : Fin 17) : ∀ a, ![0, 1024 * j.val] a + S32x1024.size a ≤ S32x17408.size a := by
  intro a
  match a with
  | ⟨0, _⟩ => show 0 + 32 ≤ 32; omega
  | ⟨1, _⟩ => show 1024 * j.val + 1024 ≤ 17408; omega

/-- Chunk `j` of the searched columns: columns `1024 j` to `1024 j + 1023`. -/
def chunk (k : Vec F S32x17408 .bf16) (j : Fin 17) : Vec F S32x1024 .bf16 :=
  View.ld k (Rect.unit (s := S32x17408) ![0, 1024 * j.val] S32x1024.size (chunk_inb j))

/-- The smallest products so far, taken on over one more chunk. -/
def step (q : FVec F S32x4352 .bf16) (b : FVec F S4352x128 .f32) (k : Vec F S32x1024 .bf16) : FVec F S4352x128 .f32 :=
  minimumf b (fold8 (dots q k))

/-- The lane-wise smallest products over the chunks `0` to `n`. -/
def best (q : FVec F S32x4352 .bf16) (k : Vec F S32x17408 .bf16) : (n : ℕ) → n < 17 → FVec F S4352x128 .f32
  | 0, h => fold8 (dots q (chunk k ⟨0, h⟩))
  | n + 1, h => step q (best q k n (Nat.lt_of_succ_lt h)) (chunk k ⟨n + 1, h⟩)

/-- The smallest entry of each row. -/
def mins (b : FVec F S4352x128 .f32) : FVec F S4352 .f32 :=
  multiReduction .minimumf [1] S4352 b 0x7F800000#32 reduces_S4352x128_S4352 (.inl rfl) rfl

/-- The sum of the smallest entries of the rows. -/
def minSum (b : FVec F S4352x128 .f32) : F .f32 :=
  extractAt ![0, 0, 0] (shapeCast S1x1x1 (multiReduction .add [1, 2] S1
    (shapeCast S1x4352x1 (shapeCast S4352x1 (mins b) shapeCasts_S4352_S4352x1) shapeCasts_S4352x1_S1x4352x1)
    0x00000000#32 reduces_S1x4352x1_S1 (.inl rfl) rfl) shapeCasts_S1_S1x1x1) inpos_S1x1x1_p0_0_0

/-- The sum of the squares of a tile of query columns. -/
def squareSum (q : FVec F S32x4352 .bf16) : F .f32 :=
  extractAt ![0, 0, 0] (shapeCast S1x1x1 (multiReduction .add [1, 2] S1
    (shapeCast S1x32x4352 (mulf (extf .f32 q bitsLt_bf16_f32) (extf .f32 q bitsLt_bf16_f32))
      shapeCasts_S32x4352_S1x32x4352)
    0x00000000#32 reduces_S1x32x4352_S1 (.inl rfl) rfl) shapeCasts_S1_S1x1x1) inpos_S1x1x1_p0_0_0

/-- The number of query columns of tile `t` that are not padding, as the body counts it. -/
def realCols (t : ℕ) : F .f32 :=
  Scalar.sitofp .f32 (Scalar.minsi (Scalar.subi 16928#32 (Scalar.muli (BitVec.ofNat 32 t) 4352#32)) 4352#32)

/-- The contribution of tile `t`, given its lane-wise smallest products: squares, less two for each column that is not
    padding, plus the smallest products. -/
def total (t : ℕ) (q : FVec F S32x4352 .bf16) (b : FVec F S4352x128 .f32) : F .f32 :=
  Scalar.addf (Scalar.subf (squareSum q) (Scalar.mulf (Scalar.ofBits .f32 0x40000000#32) (realCols t))) (minSum b)

/-- The contribution of tile `t`. -/
def tile (t : ℕ) (q : FVec F S32x4352 .bf16) (k : Vec F S32x17408 .bf16) : F .f32 := total t q (best q k 16 (by decide))

/-- The zero block the first point starts from. -/
def zeros : FVec F S8x128 .f32 := broadcast S8x128 (Scalar.ofBits .f32 0x00000000#32)

/-! The body's own expressions, one group of lines after another. -/

section Groups

variable (q : FVec F S32x4352 .bf16) (b : FVec F S4352x128 .f32) (k k' k'' : Vec F S32x1024 .bf16)

theorem group1 : k0_pay1 q = q := shapeCast_self ..
theorem group2 : k0_pay2 q k k' = step q (fold8 (dots q k)) k' := by
  unfold k0_pay2; simp only [group1]; rfl
theorem group3 : k0_pay6 q b (k0_pay3 q k) (k0_pay4 q k) (k0_pay5 q k) k' k'' = step q (step q (step q b k) k') k'' := by
  unfold k0_pay6 k0_pay5 k0_pay4 k0_pay3; simp only [group1]; rfl
theorem group4 : k0_pay8 q b (k0_pay7 q k) k' k'' = step q (step q (step q b k) k') k'' := rfl
theorem group5 : k0_pay9 q b k k' = step q (step q b k) k' := rfl
theorem group6 : k0_pay13 q b (k0_pay10 q k) (k0_pay11 q k) (k0_pay12 q k) k' k'' = step q (step q (step q b k) k') k'' := rfl
theorem group7 : k0_pay17 q b (k0_pay14 q k) (k0_pay15 q k) (k0_pay16 q k) k' k'' = step q (step q (step q b k) k') k'' := rfl
theorem group8 (t : ℕ) (o : Vec F S8x128 .f32) :
    k0_pay20 (BitVec.ofNat 32 t) q b (k0_pay18 k) o = addf o (broadcast S8x128 (total t q (step q b k))) := by
  unfold k0_pay20; simp only [shapeCast_self]; rfl
theorem group9 : k0_pay19 (F := F) = zeros := rfl

end Groups

/-- Offsets that are all zero, as the program writes them. -/
theorem zero_off : (![0, 0] : Fin 2 → Nat) = fun _ => 0 := funext fun a => by fin_cases a <;> rfl

set_option maxHeartbeats 4000000 in
/-- A point other than the first adds its tile's contribution to every entry of the block. -/
theorem out_later (c : Dev nD) (i : grid0.Coords) (a1 : Memref sig .tc .vmem S32x4352 .bf16) (h1 : a1.IsWhole)
    (a2 : Memref sig .tc .vmem S32x17408 .bf16) (h2 : a2.IsWhole) (a3 : Memref sig .tc .vmem S8x128 .f32)
    (h3 : a3.IsWhole) (hc : ¬cond0_0 i) (q : Vec F S32x4352 .bf16) (k : Vec F S32x17408 .bf16) (o : Vec F S8x128 .f32) :
    out0_B_2 c i a1 h1 a2 h2 a3 h3 hc q k o = addf o (broadcast S8x128 (tile (i 0).val q k)) := by
  unfold out0_B_2
  rw [View.read_writes_eq_canon _ _ _ (cover0_B_2 c i a1 h1 a2 h2 a3 h3 hc q k o)]
  unfold kernelRun0_B
  dsimp only
  sl_unfold_words
  rw [View.canon_unit_zero zero_off]
  simp only [View.readAt_eq_ld, h1.read_unread, h2.read_unread, h3.read_unread,
    View.ld_unit_zero (S := S32x4352) zero_off, View.ld_unit_zero (S := S8x128) zero_off]
  rw [group8, group7, group6, group5, group4, group1, group3, group2, tile]
  congr 3

set_option maxHeartbeats 4000000 in
/-- The first point leaves its tile's contribution, added to zero, in every entry of the block. -/
theorem out_first (c : Dev nD) (i : grid0.Coords) (a1 : Memref sig .tc .vmem S32x4352 .bf16) (h1 : a1.IsWhole)
    (a2 : Memref sig .tc .vmem S32x17408 .bf16) (h2 : a2.IsWhole) (a3 : Memref sig .tc .vmem S8x128 .f32)
    (h3 : a3.IsWhole) (hc : cond0_0 i) (q : Vec F S32x4352 .bf16) (k : Vec F S32x17408 .bf16) :
    out0_A_2 c i a1 h1 a2 h2 a3 h3 hc q k = addf zeros (broadcast S8x128 (tile (i 0).val q k)) := by
  unfold out0_A_2
  rw [View.read_writes_eq_canon _ _ _ (cover0_A_2 c i a1 h1 a2 h2 a3 h3 hc q k)]
  unfold kernelRun0_A
  dsimp only
  sl_unfold_words
  rw [View.canon_cons_unit_zero (S := S8x128) zero_off, View.readCov_unit_zero (S := S8x128) _ zero_off]
  simp only [View.readAt_eq_ld, h1.read_unread, h2.read_unread, View.ld_unit_zero (S := S32x4352) zero_off]
  rw [group8, group7, group6, group5, group4, group1, group3, group2, tile, group9]
  congr 3

end Cert.KernelIdeal.Out

end
-- ==== Proof.KernelRun.lean ====
/- Hand-written, untrusted: the kernel program's run, its result named as a total over the four grid points. -/
module

public import proofs.«01_k».proof.Proof.KernelOut
public import Idealize.ShloMosaic.Lib.StableHlo.Run
public import Idealize.ShloMosaic.Lib.ValueIdxCore

@[expose] public section

set_option maxRecDepth 16384

noncomputable section

namespace Cert.KernelIdeal.Out

open Idealize.ShloMosaic Idealize.ShloMosaic.TcCoe Idealize.SL.Sem Idealize.ShloMosaic.StableHlo Idealize.ShloMosaic.Pipeline
open Idealize.ShloMosaic.ValueIdx
open Cert.KernelIdeal Cert.KernelIdeal.Gen

variable {F : FTy → Type} [FloatOps F]
variable (m : (ℓ : Loc nD τ sig) → Buf (Elt F) ℓ) (ρ : Dev nD → PrngReg)

/-- The output block after point `n`, starting from zero: every entry holds the total so far. -/
def running (c : Dev nD) : (n : ℕ) → n < cfg0.N → FVec F S8x128 .f32
  | 0, h => addf zeros (broadcast S8x128 (tile 0 (iblk m c 0 ⟨0, h⟩) (iblk m c 1 ⟨0, h⟩)))
  | n + 1, h => addf (running c n (Nat.lt_of_succ_lt h))
      (broadcast S8x128 (tile (n + 1) (iblk m c 0 ⟨n + 1, h⟩) (iblk m c 1 ⟨n + 1, h⟩)))

/-- The grid has one coordinate, the point itself. -/
theorem coord_val (t : Fin grid0.N) : ((grid0.coords t) 0).val = t.val := by
  rcases fin_N0 t with rfl | rfl | rfl | rfl <;> decide +kernel

/-- The output block holds, after each point, the total so far in every entry. -/
theorem outs_eq (c : Dev nD) : ∀ (n : ℕ) (h : n < cfg0.N), outsAt0 m c n h = running m c n h
  | 0, h => by
    refine (outsAt0_A m c ⟨0, h⟩ rfl).trans ?_
    rw [out_first, coord_val, running]
  | n + 1, h => by
    have hN : cfg0.N = 4 := N_0
    have hB : ¬(⟨n + 1, h⟩ : Fin cfg0.N).val % 4 = 0 := by dsimp only; omega
    rw [outsAt0_B m c ⟨n + 1, h⟩ hB, out_later, coord_val]
    show addf (outsAt0 m c n _) _ = _
    rw [outs_eq c n, running]

/-- The array the kernel writes ends as the block after the last point. -/
abbrev block (c : Dev nD) : Buf (Elt F) ((c : Thread nD τ).loc main_v177) :=
  running m c 3 (by rw [show cfg0.N = 4 from N_0]; decide)

/-- The total over all four points: the first entry of that block. -/
def answer (c : Dev nD) : F .f32 := (block m c : FVec F S8x128 .f32) (ix2 ⟨0, by decide⟩ ⟨0, by decide⟩)

/-- The block is written back once, after the last point. -/
theorem flushed_eq (c : Dev nD) (t : Fin cfg0.N) (hf : (cfg0.win 2).flush t = true) :
    (dats m 0 c).flushed 2 t = ((cfg0.win 2).blk t).view.read (Elt F) (block m c) := by
  have hN : cfg0.N = 4 := N_0
  have h3 : t.val = 3 := by have := (flush0_2 t).mp hf; have := t.isLt; omega
  obtain rfl : t = t0_3 := Fin.ext h3
  show (cfg0.win 2).cut (grid0.coords t0_3) ((dats m 0 c).after 2 t0_3) = _
  rw [after0_2, outs_eq]
  have hz : (fun a => win0_2.index t0_3 a * main_v177.ty.shape.size a) = fun _ => 0 :=
    funext fun a => by fin_cases a <;> decide +kernel
  exact (Memref.read_access_unit_zero (Elt F) main_v177 hz (fun a => by rw [congrFun hz a]; simp) (block m c)).symm

/-- So the array ends at the total. -/
theorem final_eq (c : Dev nD) : (dats m 0 c).arrAt 2 cfg0.N = block m c :=
  (dats m 0 c).arrAt_eq_of_cover 2 (block m c) (flushed_eq m c) fun i =>
    ⟨t0_3, (flush0_2 t0_3).mpr rfl, by
      show i ∈ ((View.whole main_v177).slice (win0_2.rect t0_3)).set
      rw [View.set_slice_whole, Rect.mem_set_unit]
      intro a
      have h0 : (i 0 : Nat) < 8 := (i 0).isLt
      have h1 : (i 1 : Nat) < 128 := (i 1).isLt
      have e0 : win0_2.index t0_3 0 * win0_2.size 0 = 0 := by decide +kernel
      have e1 : win0_2.index t0_3 1 * win0_2.size 1 = 0 := by decide +kernel
      have s0 : win0_2.xsize (grid0.coords t0_3) 0 = 8 := by decide +kernel
      have s1 : win0_2.xsize (grid0.coords t0_3) 1 = 128 := by decide +kernel
      match a with
      | ⟨0, _⟩ =>
        show win0_2.index t0_3 0 * win0_2.size 0 ≤ (i 0 : Nat)
          ∧ (i 0 : Nat) < win0_2.index t0_3 0 * win0_2.size 0 + win0_2.xsize (grid0.coords t0_3) 0
        rw [e0, s0]; omega
      | ⟨1, _⟩ =>
        show win0_2.index t0_3 1 * win0_2.size 1 ≤ (i 1 : Nat)
          ∧ (i 1 : Nat) < win0_2.index t0_3 1 * win0_2.size 1 + win0_2.xsize (grid0.coords t0_3) 1
        rw [e1, s1]; omega⟩

/-- The last two host operations hand out the first entry of the array the kernel wrote. -/
theorem tail_v179 (V : Valuation τ sig (Elt F)) : after hostOps1 V (Proc.devRef .tc main_v179)
    = shapeCast S_ (extractStridedSlice S1x1 ![0, 0] (V (Proc.devRef .tc main_v177)) slices_S8x128_S1x1_0_0) shapeCasts_S1x1_S_ := by
  simp only [hostOps1]
  after_results_simp
  all_goals rfl

/-- The result buffer after the whole program. -/
theorem result_eq (c : Dev nD) :
    Pipeline.afterTail₀ cfgs (dats m) 0 (V0 m) [hostOps1] c main_v179 = (fun _ => answer m c) := by
  unfold Pipeline.afterTail₀
  simp only [List.flatten_cons, List.flatten_nil, List.append_nil]
  rw [tail_v179]
  have e := Pipeline.withArrays_arr spec0 launch0.win.arr_inj c (V0 m c)
    (fun w => (dats m 0 c).arrAt w cfg0.N) 2
  have e' : Pipeline.withArrays (cfgs 0).spec c (V0 m c) (fun w => (dats m 0 c).arrAt w (cfgs 0).N) (Proc.devRef .tc main_v177)
      = block m c := e.trans (final_eq m c)
  rw [e']
  funext i
  unfold answer shapeCast extractStridedSlice
  refine congrArg (block m c) (funext fun a => Fin.ext ?_)
  match a with
  | ⟨0, _⟩ => exact (by omega : ∀ n : ℕ, n < 1 → 0 + n = 0) _ (Fin.isLt _)
  | ⟨1, _⟩ => exact (by omega : ∀ n : ℕ, n < 1 → 0 + n = 0) _ (Fin.isLt _)

/-- The run, read: the result at the total, the arguments unchanged. -/
theorem run : θ_run defs (onTc (τ := τ) (main (F := F))) ⟨m, fun _ => 0, ρ⟩ fun r => ∀ c : Dev nD,
      r.2.mem ((c : Thread nD τ).loc main_v179) = (fun _ => answer m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v179 (Pipeline.mem_restRefs_of main_v179 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Out

end
-- ==== Proof.RefRun.lean ====
/- Hand-written, untrusted: the reference program as a list of its operations, in order. -/
module

public import proofs.«01_k».proof.Proof.Gen.ReferenceIdeal
public import Idealize.ShloMosaic.Lib.StableHlo.Run
public import Idealize.ShloMosaic.Lib.Pipeline.Frame
public import Idealize.ShloMosaic.Lib.Quiescent

@[expose] public section

set_option maxRecDepth 16384

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The type of the reference's pieces of program. -/
abbrev Piece (F : FTy → Type) [FloatOps F] :=
  Prog (TpuEff nD τ sig (Elt F) (Pipeline.Sig Λ₀ (Fin 0) fun p => (pcfgs (F := F) p).Adm) .tc) PUnit

/-- A piece of program is the line of the listed operations, each of which touches TensorCore buffers only and
    determines everything it writes. -/
structure Line (p : Piece F) (l : List (HloOp τ sig (Elt F))) : Prop where
  eq : p = seq l
  sub : l.Forall fun op => op.bufs ⊆ tcRefs τ sig
  fresh : l.Forall fun op => op.fresh = ∅

/-- The empty piece is the empty line. -/
theorem Line.done : Line (F := F) (pure ⟨⟩) [] := ⟨rfl, trivial, trivial⟩

/-- One operation before a line is a line. -/
theorem Line.step {p : Piece F} {l : List (HloOp τ sig (Elt F))} (op : HloOp τ sig (Elt F))
    (hs : op.bufs ⊆ tcRefs τ sig) (hf : op.fresh = ∅) (h : Line p l) :
    Line ((hlo rfl op fun _ => .ret (⟨⟩ : PUnit)) >>= fun _ => p) (op :: l) :=
  ⟨by rw [h.eq]; rfl, (List.forall_cons _ _ _).mpr ⟨hs, h.sub⟩, (List.forall_cons _ _ _).mpr ⟨hf, h.fresh⟩⟩

/-- A line before a line is a line. -/
theorem Line.then {p q : Piece F} {l₁ l₂ : List (HloOp τ sig (Elt F))} (h₁ : Line p l₁) (h₂ : Line q l₂) :
    Line (p >>= fun _ => q) (l₁ ++ l₂) :=
  ⟨by rw [seq_append, h₁.eq, h₂.eq], List.forall_append.mpr ⟨h₁.sub, h₂.sub⟩, List.forall_append.mpr ⟨h₁.fresh, h₂.fresh⟩⟩

set_option maxHeartbeats 4000000 in
/-- The operations of the first stretch of the reference, and that it is their line. -/
def line0 (d : Dev nD) : { l : List (HloOp τ sig (Elt F)) // Line (F := F) (main_part0 d) l } := by
  apply Subtype.mk
  unfold main_part0
  iterate 60
    apply Line.step
    · with_reducible first | exact unary_bufs_sub .. | exact reshape_bufs_sub .. | exact binary_bufs_sub .. | exact nullary_bufs_sub .. | exact nary_bufs_sub ..
    · exact rfl
  exact Line.done

set_option maxHeartbeats 4000000 in
/-- The operations of the second stretch of the reference. -/
def line1 (d : Dev nD) : { l : List (HloOp τ sig (Elt F)) // Line (F := F) (main_part1 d) l } := by
  apply Subtype.mk
  unfold main_part1
  iterate 60
    apply Line.step
    · with_reducible first | exact unary_bufs_sub .. | exact reshape_bufs_sub .. | exact binary_bufs_sub .. | exact nullary_bufs_sub .. | exact nary_bufs_sub ..
    · exact rfl
  exact Line.done

set_option maxHeartbeats 4000000 in
/-- The operations of the search for the position of the least entry. -/
def argminLine (a : TRef sig ⟨S16928x16928, .f32⟩) (φ : fn_argmin.Bufs) : { l : List (HloOp τ sig (Elt F)) // Line (F := F) (fn_argmin.body a φ) l } := by
  apply Subtype.mk
  unfold fn_argmin.body
  apply Line.step; exact nullary_bufs_sub ..; rfl
  apply Line.step; exact nullary_bufs_sub ..; rfl
  apply Line.step; exact nullary_bufs_sub ..; rfl
  apply Line.step; exact quaternary_bufs_sub ..; rfl
  apply Line.step; exact quaternary_bufs_sub ..; rfl
  exact Line.done

set_option maxHeartbeats 4000000 in
/-- The operation of the choice by a mask. -/
def whereLine (a : TRef sig ⟨S16928, .i1⟩) (b c : TRef sig ⟨S16928, .i32⟩) (φ : fn_where.Bufs) : { l : List (HloOp τ sig (Elt F)) // Line (F := F) (fn_where.body a b c φ) l } := by
  apply Subtype.mk
  unfold fn_where.body
  apply Line.step; exact ternary_bufs_sub ..; rfl
  exact Line.done

set_option maxHeartbeats 4000000 in
/-- The operations of the reading of rows at given positions. -/
def takeLine (a : TRef sig ⟨S16928x25, .f32⟩) (b : TRef sig ⟨S16928, .i32⟩) (φ : fn_take.Bufs) : { l : List (HloOp τ sig (Elt F)) // Line (F := F) (fn_take.body a b φ) l } := by
  apply Subtype.mk
  unfold fn_take.body
  apply Line.step; exact nullary_bufs_sub ..; rfl
  apply Line.step; exact unary_bufs_sub ..; rfl
  apply Line.step; exact binary_bufs_sub ..; rfl
  apply Line.step; exact nullary_bufs_sub ..; rfl
  apply Line.step; exact unary_bufs_sub ..; rfl
  apply Line.step; exact binary_bufs_sub ..; rfl
  apply Line.then
  · exact (whereLine ..).2
  apply Line.step; exact unary_bufs_sub ..; rfl
  apply Line.step; exact nullary_bufs_sub ..; rfl
  apply Line.step; exact nullary_bufs_sub ..; rfl
  apply Line.step; exact unary_bufs_sub ..; rfl
  apply Line.step; exact binary_bufs_sub ..; rfl
  apply Line.step; exact unary_bufs_sub ..; rfl
  apply Line.step; exact unary_bufs_sub ..; rfl
  apply Line.step; exact binary_bufs_sub ..; rfl
  apply Line.step; exact binary_bufs_sub ..; rfl
  apply Line.step; exact nullary_bufs_sub ..; rfl
  apply Line.step; exact binary_bufs_sub ..; rfl
  apply Line.step; exact binary_bufs_sub ..; rfl
  apply Line.step; exact unary_bufs_sub ..; rfl
  apply Line.step; exact nullary_bufs_sub ..; rfl
  apply Line.step; exact unary_bufs_sub ..; rfl
  apply Line.step; exact ternary_bufs_sub ..; rfl
  exact Line.done

set_option maxHeartbeats 4000000 in
/-- The operations of the third stretch of the reference. -/
def line2 (d : Dev nD) : { l : List (HloOp τ sig (Elt F)) // Line (F := F) (main_part2 d) l } := by
  apply Subtype.mk
  unfold main_part2
  iterate 57
    apply Line.step
    · with_reducible first | exact unary_bufs_sub .. | exact reshape_bufs_sub .. | exact binary_bufs_sub .. | exact nullary_bufs_sub .. | exact nary_bufs_sub ..
    · exact rfl
  apply Line.then
  · exact (argminLine ..).2
  apply Line.then
  · exact (takeLine ..).2
  iterate 1
    apply Line.step
    · with_reducible first | exact unary_bufs_sub .. | exact reshape_bufs_sub .. | exact binary_bufs_sub .. | exact nullary_bufs_sub .. | exact nary_bufs_sub ..
    · exact rfl
  exact Line.done

set_option maxHeartbeats 4000000 in
/-- The operations of the last stretch of the reference. -/
def line3 (d : Dev nD) : { l : List (HloOp τ sig (Elt F)) // Line (F := F) (main_part3 d) l } := by
  apply Subtype.mk
  unfold main_part3
  iterate 3
    apply Line.step
    · with_reducible first | exact unary_bufs_sub .. | exact reshape_bufs_sub .. | exact binary_bufs_sub .. | exact nullary_bufs_sub .. | exact nary_bufs_sub ..
    · exact rfl
  exact Line.done

/-- The operations of the reference, in order. -/
def ops (d : Dev nD) : List (HloOp τ sig (Elt F)) :=
  (line0 d).1 ++ ((line1 d).1 ++ ((line2 d).1 ++ (line3 d).1))

/-- The reference is the line of its operations. -/
theorem main_line (d : Dev nD) : Line (F := F) (main d) (ops d) :=
  (line0 d).2.then ((line1 d).2.then ((line2 d).2.then (line3 d).2))

/-- No buffer of the reference is scoped. -/
theorem scopedRefs_eq : (Finset.univ.filter fun b : Ref sig .tc => b.isScoped) = ∅ := by decide
/-- No semaphore of the reference is scoped. -/
theorem scopedSems_eq : (Finset.univ.filter fun sm : SemLoc sig => sm.isScoped .tc) = ∅ := by decide

/-- Every execution of the reference terminates with every buffer at what its operations, in order, leave there, and
    with every semaphore counter at zero. -/
theorem run_main (m : (ℓ : Loc nD τ sig) → Buf (Elt F) ℓ) (ρ : Dev nD → PrngReg) :
    θ_run defs (onTc (τ := τ) (main (F := F))) ⟨m, fun _ => 0, ρ⟩ fun r =>
      (∀ (d : Dev nD) (b : Ref sig .tc), r.2.mem ((d.tc : Thread nD τ).loc b)
        = after (ops d) (launchContents m d) (Proc.devRef .tc b)) ∧ r.2.sem = fun _ => 0 :=
  (θ_run defs _ _).mono (fun r h => ⟨h, sem_eq_zero_of_no_sems rfl r.2⟩)
    (run_seq scopedRefs_eq scopedSems_eq defs main ops (fun d => (main_line d).eq) (fun d => (main_line d).sub) m ρ
      fun d => List.forall_iff_forall_mem.mp (main_line d).fresh)

end Cert.ReferenceIdeal.Run

end
-- ==== Proof.Patch.lean ====
/- Hand-written, untrusted: the windows of a video that the patches are read from. A video is `1 × 1 × 2 × 96 × 96`
   (batch, channel, frame, row, column); the window of displacement `r = 5·i + j` is the `92 × 92` sub-image of each
   frame that starts at row `i` and column `j`, so that entry `(f, a, b)` of window `r` is entry `r` of the `5 × 5`
   patch whose corner is `(f, a, b)`. -/
module

public import Idealize.ShloMosaic.Lib.Pipeline.Value
public import Idealize.ShloMosaic.Lib.Pointwise

@[expose] public section

set_option maxRecDepth 16384

noncomputable section

namespace Cert.Proof

open Idealize.ShloMosaic

variable {α : Type}

/-- The shape of a video. -/
abbrev Vid : Shape := ⟨5, ![1, 1, 2, 96, 96]⟩
/-- The shape of a window as it is cut out of a video. -/
abbrev Win5 : Shape := ⟨5, ![1, 1, 2, 92, 92]⟩
/-- The shape of a window without its two axes of extent one. -/
abbrev Win3 : Shape := ⟨3, ![2, 92, 92]⟩
/-- The shape of a window without its first axis of extent one. -/
abbrev Win4 : Shape := ⟨4, ![1, 2, 92, 92]⟩
/-- The shape of the twenty-five windows laid out as rows. -/
abbrev Rows : Shape := ⟨2, ![25, 16928]⟩

/-- Every window of the twenty-five lies inside the video. -/
theorem window_slices : ∀ r : Fin 25, Vid.Slices ![0, 0, 0, r.val / 5, r.val % 5] Win5 := by decide

/-- Window `r` of a video, as a `1 × 1 × 2 × 92 × 92` array. -/
def window (x : Vid.Idx → α) (r : Fin 25) : Win5.Idx → α :=
  extractStridedSlice Win5 ![0, 0, 0, r.val / 5, r.val % 5] x (window_slices r)

end Cert.Proof

end
-- ==== Proof.RefHost.lean ====
/- Hand-written, untrusted: the two patch matrices the reference cuts out of its arguments. -/
module

public import proofs.«01_k».proof.Proof.RefRun
public import proofs.«01_k».proof.Proof.Patch

@[expose] public section

set_option maxRecDepth 16384

noncomputable section

namespace Cert.ReferenceIdeal.Run

open Cert.ReferenceIdeal Cert.ReferenceIdeal.Gen Idealize.ShloMosaic Idealize.ShloMosaic.TcCoe Idealize.SL.Sem Idealize.ShloMosaic.StableHlo
open Cert.Proof

variable {F : FTy → Type} [FloatOps F]

/-- Window `r` of a video, ready to be stacked along a new first axis. -/
def slab (x : FVec F S1x1x2x96x96 .f32) (r : Fin 25) : FVec F S1x1x2x92x92 .f32 :=
  broadcastInDim S1x1x2x92x92 ![1, 2, 3, 4] bcast_S1x2x92x92_S1x1x2x92x92_1_2_3_4
    (shapeCast S1x2x92x92 (window x r) shapeCasts_S1x1x2x92x92_S1x2x92x92)

/-- The patches of a video, one window after another. -/
def stacked (x : FVec F S1x1x2x96x96 .f32) : FVec F S25x16928 .f32 :=
  shapeCast S25x16928 (concatenate S25x1x2x92x92 0
    [⟨S16x1x2x92x92, concatenate S16x1x2x92x92 0
        (List.ofFn fun r : Fin 16 => (⟨S1x1x2x92x92, slab x ⟨r.val, by omega⟩⟩ : (s : Shape) × (s.Idx → F .f32)))
        concatenates_S1x1x2x92x92_S1x1x2x92x92_S1x1x2x92x92_S1x1x2x92x92_S1x1x2x92x92_S1x1x2x92x92_S1x1x2x92x92_S1x1x2x92x92_S1x1x2x92x92_S1x1x2x92x92_S1x1x2x92x92_S1x1x2x92x92_S1x1x2x92x92_S1x1x2x92x92_S1x1x2x92x92_S1x1x2x92x92_S16x1x2x92x92_d0⟩,
     ⟨S9x1x2x92x92, concatenate S9x1x2x92x92 0
        (List.ofFn fun r : Fin 9 => (⟨S1x1x2x92x92, slab x ⟨16 + r.val, by omega⟩⟩ : (s : Shape) × (s.Idx → F .f32)))
        concatenates_S1x1x2x92x92_S1x1x2x92x92_S1x1x2x92x92_S1x1x2x92x92_S1x1x2x92x92_S1x1x2x92x92_S1x1x2x92x92_S1x1x2x92x92_S1x1x2x92x92_S9x1x2x92x92_d0⟩]
    concatenates_S16x1x2x92x92_S9x1x2x92x92_S25x1x2x92x92_d0) shapeCasts_S25x1x2x92x92_S25x16928

/-- The patches of a video as the rows of a `16928 × 25` matrix. -/
def patches (x : FVec F S1x1x2x96x96 .f32) : FVec F S16928x25 .f32 :=
  transpose S16928x25 [1, 0] (stacked x) transposes_S25x16928_S16928x25_1_0

set_option maxHeartbeats 4000000 in
/-- The stacked windows of the second argument, as the reference cuts them. -/
theorem read_v78 (d : Dev nD) (V : Valuation τ sig (Elt F)) :
    after ((line0 d).1 ++ (line1 d).1.take 19) V (Proc.devRef .tc main_v78) = stacked (V (Proc.devRef .tc main_arg1)) := by
  simp only [line0, line1, List.cons_append, List.nil_append, List.take_succ_cons, List.take_zero]
  after_results_simp
  try dsimp only [Matrix.cons_val]
  try after_results_simp
  all_goals rfl

/-- The last step, a transposition. -/
theorem read_v79 (d : Dev nD) (V : Valuation τ sig (Elt F)) :
    after (((line1 d).1.drop 19).take 1) V (Proc.devRef .tc main_v79)
      = transpose S16928x25 [1, 0] (V (Proc.devRef .tc main_v78)) transposes_S25x16928_S16928x25_1_0 := by
  simp only [line1, List.drop_succ_cons, List.drop_zero, List.take_succ_cons, List.take_zero]
  after_results_simp
  all_goals rfl

end Cert.ReferenceIdeal.Run

end
-- ==== Proof.RefHost2.lean ====
/- Hand-written, untrusted: the query patches the reference cuts out of its first argument. -/
module

public import proofs.«01_k».proof.Proof.RefHost

@[expose] public section

set_option maxRecDepth 16384

noncomputable section

namespace Cert.ReferenceIdeal.Run

open Idealize.ShloMosaic Idealize.ShloMosaic.TcCoe Idealize.SL.Sem Idealize.ShloMosaic.StableHlo
open Cert.ReferenceIdeal Cert.ReferenceIdeal.Gen Cert.Proof

variable {F : FTy → Type} [FloatOps F]

set_option maxHeartbeats 4000000 in
/-- The stacked windows of the first argument, as the reference cuts them. -/
theorem read_v158 (d : Dev nD) (V : Valuation τ sig (Elt F)) :
    after ((line1 d).1.drop 20 ++ (line2 d).1.take 39) V (Proc.devRef .tc main_v158) = stacked (V (Proc.devRef .tc main_arg0)) := by
  simp only [line1, line2, List.cons_append, List.nil_append, List.drop_succ_cons, List.drop_zero, List.take_succ_cons, List.take_zero]
  after_results_simp
  try dsimp only [Matrix.cons_val]
  try after_results_simp
  all_goals rfl

/-- The last step, a transposition. -/
theorem read_v159 (d : Dev nD) (V : Valuation τ sig (Elt F)) :
    after (((line2 d).1.drop 39).take 1) V (Proc.devRef .tc main_v159)
      = transpose S16928x25 [1, 0] (V (Proc.devRef .tc main_v158)) transposes_S25x16928_S16928x25_1_0 := by
  simp only [line2, List.drop_succ_cons, List.drop_zero, List.take_succ_cons, List.take_zero]
  after_results_simp
  all_goals rfl

end Cert.ReferenceIdeal.Run

end
-- ==== Proof.RefLoss.lean ====
/- Hand-written, untrusted: the reference's loss, as an expression of the two patch matrices. -/
module

public import proofs.«01_k».proof.Proof.RefRun

@[expose] public section

set_option maxRecDepth 16384

noncomputable section

namespace Cert.ReferenceIdeal.Run

open Idealize.ShloMosaic Idealize.ShloMosaic.TcCoe Idealize.SL.Sem Idealize.ShloMosaic.StableHlo
open Cert.ReferenceIdeal Cert.ReferenceIdeal.Gen

variable {F : FTy → Type} [FloatOps F]

/-- The squared distances from each query patch `q` to each searched patch `k`, multiplied out. -/
def dists (q k : FVec F S16928x25 .f32) : FVec F S16928x16928 .f32 :=
  addf (subf
    (broadcastInDim S16928x16928 ![0, 1] bcast_S16928x1_S16928x16928_0_1 (broadcastInDim S16928x1 ![0] bcast_S16928_S16928x1_0
      (Host.reduceAdd (mulf q q) (constant S_ .f32 0x00000000#32) reducesTo_S16928x25_S16928_d1 h_S_)))
    (mulf (broadcastInDim S16928x16928 ![] bcast_S_S16928x16928 (constant S_ .f32 0x40000000#32))
      (Host.dotGeneral dot_S16928x25_S25x16928_S16928x16928_1_0_0_1_n_n none q
        (transpose S25x16928 [1, 0] k transposes_S16928x25_S25x16928_1_0))))
    (broadcastInDim S16928x16928 ![0, 1] bcast_S1x16928_S16928x16928_0_1 (broadcastInDim S1x16928 ![1] bcast_S16928_S1x16928_1
      (Host.reduceAdd (mulf k k) (constant S_ .f32 0x00000000#32) reducesTo_S16928x25_S16928_d1 h_S_)))

/-- The position of the least entry of each row. -/
def nearest (x : FVec F S16928x16928 .f32) : IVec S16928 32 := fun j =>
  (Host.argReduce reducer_argmin_f32_i32 x (iotaInDim S16928x16928 32 1) (constant S_ .f32 0x7F800000#32) (constantI S_ 32 0#32)
    reducesTo_S16928x16928_S16928_d1 h_S_ j).2

/-- A position counted from the end when negative, as a column. -/
def wrapped (i : IVec S16928 32) : IVec S16928x1 32 :=
  broadcastInDim S16928x1 ![0] bcast_S16928_S16928x1_0
    (select (cmpi .slt i (broadcastInDim S16928 ![] bcast_S_S16928 (constantI S_ 32 0#32)))
      (addi i (broadcastInDim S16928 ![] bcast_S_S16928 (constantI S_ 32 16928#32))) i)

/-- Which positions lie inside the matrix. -/
def inside (w : IVec S16928x1 32) : IVec S16928 1 :=
  Host.reduce IntOp.andi
    (andi (cmpi .sge w (broadcastInDim S16928x1 ![] bcast_S_S16928x1 (constantI S_ 32 0#32)))
      (cmpi .sle w (broadcastInDim S16928x1 ![0, 1] bcast_S1x1_S16928x1_0_1
        (broadcastInDim S1x1 ![1] bcast_S1_S1x1_1 (constantI S1 32 16927#32)))))
    (constantI S_ 1 1#1) reducesTo_S16928x1_S16928_d1 h_S_

/-- The rows of a matrix at given positions. -/
def taken (k : FVec F S16928x25 .f32) (i : IVec S16928 32) : FVec F S16928x25 .f32 :=
  select (broadcastInDim S16928x25 ![0] bcast_S16928_S16928x25_0 (inside (wrapped i)))
    (Host.gather gather_S16928x25_S16928x1_S16928x25_1_0_n_n_0_1_125 k (wrapped i))
    (broadcastInDim S16928x25 ![] bcast_S_S16928x25 (constant S_ .f32 0x7FC00000#32))

/-- The sum of the squared differences of two matrices. -/
def squares (q t : FVec F S16928x25 .f32) : FVec F S_ .f32 :=
  Host.reduceAdd (mulf (subf q t) (subf q t)) (constant S_ .f32 0x00000000#32) reducesTo_S16928x25_S_d0_1 h_S_

/-- The loss: each query patch against the searched patch nearest to it. -/
def loss (q k : FVec F S16928x25 .f32) : FVec F S_ .f32 := squares q (taken k (nearest (dists q k)))

/-- Contents at a buffer whose type is the value's are the value. -/
theorem to_self {b : Ref sig .tc} (h1 : b.ty = b.ty) (h2 : b.space ≠ .host) (h3 : b.isScoped = false) (v : b.ty.Contents (Elt F)) :
    (TRef.of b h1 h2 h3).toBuf v = v := rfl

/-- And back. -/
theorem of_self {b : Ref sig .tc} (h1 : b.ty = b.ty) (h2 : b.space ≠ .host) (h3 : b.isScoped = false) (v : b.ty.Contents (Elt F)) :
    (TRef.of b h1 h2 h3).ofBuf v = v := rfl

set_option maxHeartbeats 4000000 in
/-- The loss, as the reference computes it from the two patch matrices. -/
theorem read_v178 (d : Dev nD) (V : Valuation τ sig (Elt F)) :
    after ((line2 d).1.drop 40 ++ (line3 d).1) V (Proc.devRef .tc main_v178)
      = loss (V (Proc.devRef .tc main_v159)) (V (Proc.devRef .tc main_v79)) := by
  simp only [line2, line3, argminLine, takeLine, whereLine, List.cons_append, List.nil_append, List.drop_succ_cons, List.drop_zero]
  after_results_simp
  simp only [TRef.ofBuf_toBuf]
  erw [to_self (b := main_v175), of_self (b := main_v173), of_self (b := main_v79)]
  all_goals rfl

end Cert.ReferenceIdeal.Run

end
-- ==== Proof.RefArr.lean ====
/- Hand-written, untrusted: the reference's run, its result an expression of its arguments. -/
module

public import proofs.«01_k».proof.Proof.RefHost2
public import proofs.«01_k».proof.Proof.RefLoss

@[expose] public section

set_option maxRecDepth 16384

noncomputable section

namespace Cert.ReferenceIdeal.Run

open Idealize.ShloMosaic Idealize.ShloMosaic.TcCoe Idealize.SL.Sem Idealize.ShloMosaic.StableHlo
open Cert.ReferenceIdeal Cert.ReferenceIdeal.Gen Cert.Proof

variable {F : FTy → Type} [FloatOps F]

/-- The reference in stretches: the searched patches, the query patches, the loss. -/
theorem ops_split (d : Dev nD) (V : Valuation τ sig (Elt F)) : after (ops d) V
    = after ((line2 d).1.drop 40 ++ (line3 d).1) (after (((line2 d).1.drop 39).take 1)
        (after ((line1 d).1.drop 20 ++ (line2 d).1.take 39) (after (((line1 d).1.drop 19).take 1)
          (after ((line0 d).1 ++ (line1 d).1.take 19) V)))) := by
  have cut : ∀ (l : List (HloOp τ sig (Elt F))) (n : ℕ), l = l.take n ++ ((l.drop n).take 1 ++ l.drop (n + 1)) := fun l n => by
    conv_lhs => rw [← List.take_append_drop n l, ← List.take_append_drop 1 (l.drop n), List.drop_drop]
  rw [← after_append, ← after_append, ← after_append, ← after_append]
  refine congrArg (fun l => after l V) ?_
  unfold ops
  conv_lhs => rw [cut (line1 d).1 19, cut (line2 d).1 39]
  simp only [List.append_assoc]

/-- The query patches are cut without touching the searched ones. -/
theorem kept_v79 (d : Dev nD) (V : Valuation τ sig (Elt F)) :
    after ((line1 d).1.drop 20 ++ (line2 d).1.take 39) V (Proc.devRef .tc main_v79) = V (Proc.devRef .tc main_v79) := by
  simp only [line1, line2, List.cons_append, List.nil_append, List.drop_succ_cons, List.drop_zero, List.take_succ_cons, List.take_zero]
  after_results_simp

/-- Nor does their transposition. -/
theorem kept_v79' (d : Dev nD) (V : Valuation τ sig (Elt F)) :
    after (((line2 d).1.drop 39).take 1) V (Proc.devRef .tc main_v79) = V (Proc.devRef .tc main_v79) := by
  simp only [line2, List.drop_succ_cons, List.drop_zero, List.take_succ_cons, List.take_zero]
  after_results_simp

/-- The first stretch leaves the two arguments. -/
theorem kept_first (d : Dev nD) (V : Valuation τ sig (Elt F)) :
    after ((line0 d).1 ++ (line1 d).1.take 19) V (Proc.devRef .tc main_arg0) = V (Proc.devRef .tc main_arg0)
    ∧ after ((line0 d).1 ++ (line1 d).1.take 19) V (Proc.devRef .tc main_arg1) = V (Proc.devRef .tc main_arg1) := by
  simp only [line0, line1, List.cons_append, List.nil_append, List.take_succ_cons, List.take_zero]
  constructor <;> after_results_simp

/-- So does the transposition of the searched patches. -/
theorem kept_second (d : Dev nD) (V : Valuation τ sig (Elt F)) :
    after (((line1 d).1.drop 19).take 1) V (Proc.devRef .tc main_arg0) = V (Proc.devRef .tc main_arg0)
    ∧ after (((line1 d).1.drop 19).take 1) V (Proc.devRef .tc main_arg1) = V (Proc.devRef .tc main_arg1) := by
  simp only [line1, List.drop_succ_cons, List.drop_zero, List.take_succ_cons, List.take_zero]
  constructor <;> after_results_simp

/-- So does the cutting of the query patches. -/
theorem kept_third (d : Dev nD) (V : Valuation τ sig (Elt F)) :
    after ((line1 d).1.drop 20 ++ (line2 d).1.take 39) V (Proc.devRef .tc main_arg0) = V (Proc.devRef .tc main_arg0)
    ∧ after ((line1 d).1.drop 20 ++ (line2 d).1.take 39) V (Proc.devRef .tc main_arg1) = V (Proc.devRef .tc main_arg1) := by
  simp only [line1, line2, List.cons_append, List.nil_append, List.drop_succ_cons, List.drop_zero, List.take_succ_cons, List.take_zero]
  constructor <;> after_results_simp

/-- So does the transposition of the query patches. -/
theorem kept_fourth (d : Dev nD) (V : Valuation τ sig (Elt F)) :
    after (((line2 d).1.drop 39).take 1) V (Proc.devRef .tc main_arg0) = V (Proc.devRef .tc main_arg0)
    ∧ after (((line2 d).1.drop 39).take 1) V (Proc.devRef .tc main_arg1) = V (Proc.devRef .tc main_arg1) := by
  simp only [line2, List.drop_succ_cons, List.drop_zero, List.take_succ_cons, List.take_zero]
  constructor <;> after_results_simp

/-- So does the computation of the loss. -/
theorem kept_last (d : Dev nD) (V : Valuation τ sig (Elt F)) :
    after ((line2 d).1.drop 40 ++ (line3 d).1) V (Proc.devRef .tc main_arg0) = V (Proc.devRef .tc main_arg0)
    ∧ after ((line2 d).1.drop 40 ++ (line3 d).1) V (Proc.devRef .tc main_arg1) = V (Proc.devRef .tc main_arg1) := by
  simp only [line2, line3, argminLine, takeLine, whereLine, List.cons_append, List.nil_append, List.drop_succ_cons, List.drop_zero]
  constructor <;> after_results_simp

/-- The reference's result. -/
theorem result_eq (d : Dev nD) (V : Valuation τ sig (Elt F)) : after (ops d) V (Proc.devRef .tc main_v178)
    = loss (patches (V (Proc.devRef .tc main_arg0))) (patches (V (Proc.devRef .tc main_arg1))) := by
  rw [ops_split, read_v178, read_v159, read_v158, kept_v79', kept_v79, read_v79, read_v78, (kept_second d _).1, (kept_first d V).1]
  rfl

/-- The run, read: the result at the loss, the arguments unchanged. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c : Thread nD τ).loc main_v178)
        = loss (patches (m ((c : Thread nD τ).loc main_arg0))) (patches (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono (fun _ h => ⟨fun c =>
    ⟨(h.1 c main_v178).trans (result_eq c _),
     (h.1 c main_arg0).trans (by
      rw [ops_split, (kept_last c _).1, (kept_fourth c _).1, (kept_third c _).1, (kept_second c _).1, (kept_first c _).1]),
     (h.1 c main_arg1).trans (by
      rw [ops_split, (kept_last c _).2, (kept_fourth c _).2, (kept_third c _).2, (kept_second c _).2, (kept_first c _).2])⟩,
    h.2⟩) (run_main m ρ)

end Cert.ReferenceIdeal.Run

end
-- ==== Proof.Block.lean ====
/- Hand-written, untrusted: the blocks the kernel reads at each grid point, as parts of its two arrays. -/
module

public import proofs.«01_k».proof.Proof.KernelRun
public import Idealize.ShloMosaic.Lib.Pipeline.ValueKit

@[expose] public section

set_option maxRecDepth 16384

noncomputable section

namespace Cert.KernelIdeal.Out

open Idealize.ShloMosaic
open Idealize.ShloMosaic.TcCoe Idealize.SL.Sem
open Cert.KernelIdeal Cert.KernelIdeal.Gen

variable {F : FTy → Type} [FloatOps F]
variable (m : (ℓ : Loc nD τ sig) → Buf (Elt F) ℓ)

/-- The query window moves along the columns, one tile a point. -/
theorem query_index (t : Fin cfg0.N) : win0_0.index t 0 = 0 ∧ win0_0.index t 1 = t.val := by
  rcases fin_N0 t with rfl | rfl | rfl | rfl <;> decide +kernel

/-- The searched window stays where it is. -/
theorem search_index (t : Fin cfg0.N) : win0_1.index t 0 = 0 ∧ win0_1.index t 1 = 0 := by
  rcases fin_N0 t with rfl | rfl | rfl | rfl <;> decide +kernel

/-- Column `a` of the query block at point `t` is column `4352 t + a` of the query array. -/
theorem query_block (c : Dev nD) (t : Fin cfg0.N) (r : Fin 32) (a : Fin 4352) (n : Fin 17408) (hn : n.val = 4352 * t.val + a.val) :
    iblk m c 0 t (ValueIdx.ix2 r a) = V m c main_v161 (ValueIdx.ix2 r n) := by
  obtain ⟨h0, h1⟩ := query_index t
  unfold iblk
  rw [View.read_apply]
  show V m c main_v161 _ = _
  refine congrArg (V m c main_v161) ?_
  funext b
  apply Fin.ext
  match b with
  | ⟨0, _⟩ =>
    show win0_0.index t 0 * 32 + 1 * r.val = r.val
    rw [h0]; omega
  | ⟨1, _⟩ =>
    show win0_0.index t 1 * 4352 + 1 * a.val = n.val
    rw [h1]; omega

/-- The searched block is the whole searched array. -/
theorem search_block (c : Dev nD) (t : Fin cfg0.N) (r : Fin 32) (n : Fin 17408) :
    iblk m c 1 t (ValueIdx.ix2 r n) = V m c main_v176 (ValueIdx.ix2 r n) := by
  obtain ⟨h0, h1⟩ := search_index t
  unfold iblk
  rw [View.read_apply]
  show V m c main_v176 _ = _
  refine congrArg (V m c main_v176) ?_
  funext b
  apply Fin.ext
  match b with
  | ⟨0, _⟩ =>
    show win0_1.index t 0 * 32 + 1 * r.val = r.val
    rw [h0]; omega
  | ⟨1, _⟩ =>
    show win0_1.index t 1 * 17408 + 1 * n.val = n.val
    rw [h1]; omega

end Cert.KernelIdeal.Out

end
-- ==== Proof.Tile.lean ====
/- Hand-written, untrusted: what the kernel's body computes for one tile of query columns, over the extended reals. -/
module

public import proofs.«01_k».proof.Proof.KernelOut
public import Idealize.ShloMosaic.Lib.ValueIdxCore
public import Idealize.ShloMosaic.Lib.Pointwise
public import Idealize.ShloMosaic.Lib.Pipeline.ValueKit

@[expose] public section

set_option maxRecDepth 16384

noncomputable section

namespace Cert.KernelIdeal.Out

open Idealize.ShloMosaic Idealize.ShloMosaic.TcCoe Idealize.SL.Sem
open Cert.KernelIdeal Cert.KernelIdeal.Gen

/-- The product of query column `a` with searched column `n`. -/
def dot {w : Nat} (q : FVec Ideal S32x4352 .bf16) (k : (⟨2, ![32, w]⟩ : Shape).Idx → EReal) (a : Fin 4352) (n : Fin w) : EReal :=
  ∑ r : Fin 32, (q (ValueIdx.ix2 r a) : EReal) * k (ValueIdx.ix2 r n)

/-- The matrix product's entries are the products of the columns. -/
theorem dots_apply (q : FVec Ideal S32x4352 .bf16) (k : Vec Ideal S32x1024 .bf16) (a : Fin 4352) (n : Fin 1024) :
    dots q k (ValueIdx.ix2 a n) = dot q k a n := by
  unfold dots
  rw [shapeCast_self]
  refine (Ideal.matmul_apply₁_of dot_S32x4352_S32x1024_S4352x1024_0_0_1_1_n_n (a := 0) rfl (K := 32) rfl _ _ _ _
    (fun r => ValueIdx.ix2 r a) (fun r => ValueIdx.ix2 r n) ?_ ?_).trans ?_
  · intro r
    funext b
    match b with
    | ⟨0, _⟩ => rfl
    | ⟨1, _⟩ => rfl
  · intro r
    funext b
    match b with
    | ⟨0, _⟩ => rfl
    | ⟨1, _⟩ => rfl
  · show Ideal.ofBits .f32 0x00000000#32 + _ = _
    rw [Ideal.ofBits_zero_f32, zero_add]
    rfl

/-- The lane-wise smallest over the eight groups of lanes is below-bounded by what bounds each group's entry. -/
theorem le_fold8 (d : FVec Ideal S4352x1024 .f32) (a : Fin 4352) (l : Fin 128) (z : EReal) :
    z ≤ fold8 d (ValueIdx.ix2 a l) ↔ ∀ g : Fin 8, z ≤ d (ValueIdx.ix2 a ⟨128 * g.val + l.val, by omega⟩) := by
  have e (g : Nat) (hg : g < 8) (h : S4352x1024.Slices ![0, 128 * g] S4352x128) :
      extractStridedSlice S4352x128 ![0, 128 * g] d h (ValueIdx.ix2 a l) = d (ValueIdx.ix2 a ⟨128 * g + l.val, by omega⟩) :=
    extractStridedSlice_apply _ _ _ _ _ fun b => by
      match b with
      | ⟨0, _⟩ => exact (Nat.zero_add _).symm
      | ⟨1, _⟩ => rfl
  unfold fold8
  simp only [minimumf_apply, Ideal.minimumf_def]
  have h0 := e 0 (by omega) slices_S4352x1024_o0_0_S4352x128
  have h1 := e 1 (by omega) slices_S4352x1024_o0_128_S4352x128
  have h2 := e 2 (by omega) slices_S4352x1024_o0_256_S4352x128
  have h3 := e 3 (by omega) slices_S4352x1024_o0_384_S4352x128
  have h4 := e 4 (by omega) slices_S4352x1024_o0_512_S4352x128
  have h5 := e 5 (by omega) slices_S4352x1024_o0_640_S4352x128
  have h6 := e 6 (by omega) slices_S4352x1024_o0_768_S4352x128
  have h7 := e 7 (by omega) slices_S4352x1024_o0_896_S4352x128
  have all : (∀ g : Fin 8, z ≤ d (ValueIdx.ix2 a ⟨128 * g.val + l.val, by omega⟩)) ↔
      (((((((z ≤ d (ValueIdx.ix2 a ⟨128 * 0 + l.val, by omega⟩) ∧ z ≤ d (ValueIdx.ix2 a ⟨128 * 1 + l.val, by omega⟩))
        ∧ z ≤ d (ValueIdx.ix2 a ⟨128 * 2 + l.val, by omega⟩)) ∧ z ≤ d (ValueIdx.ix2 a ⟨128 * 3 + l.val, by omega⟩))
        ∧ z ≤ d (ValueIdx.ix2 a ⟨128 * 4 + l.val, by omega⟩)) ∧ z ≤ d (ValueIdx.ix2 a ⟨128 * 5 + l.val, by omega⟩))
        ∧ z ≤ d (ValueIdx.ix2 a ⟨128 * 6 + l.val, by omega⟩)) ∧ z ≤ d (ValueIdx.ix2 a ⟨128 * 7 + l.val, by omega⟩)) := by
    constructor
    · intro h
      exact ⟨⟨⟨⟨⟨⟨⟨h 0, h 1⟩, h 2⟩, h 3⟩, h 4⟩, h 5⟩, h 6⟩, h 7⟩
    · rintro ⟨⟨⟨⟨⟨⟨⟨k0, k1⟩, k2⟩, k3⟩, k4⟩, k5⟩, k6⟩, k7⟩ g
      match g with
      | ⟨0, _⟩ => exact k0
      | ⟨1, _⟩ => exact k1
      | ⟨2, _⟩ => exact k2
      | ⟨3, _⟩ => exact k3
      | ⟨4, _⟩ => exact k4
      | ⟨5, _⟩ => exact k5
      | ⟨6, _⟩ => exact k6
      | ⟨7, _⟩ => exact k7
  rw [all]
  refine Iff.trans ?_ (Iff.of_eq rfl)
  simp only [le_min_iff]
  exact Iff.of_eq (by rw [← h0, ← h1, ← h2, ← h3, ← h4, ← h5, ← h6, ← h7])

/-- A column of a chunk is a column of the whole array. -/
theorem dot_chunk (q : FVec Ideal S32x4352 .bf16) (k : Vec Ideal S32x17408 .bf16) (j : Fin 17) (a : Fin 4352) (n : Fin 1024) :
    dot q (chunk k j) a n = dot q k a ⟨1024 * j.val + n.val, by omega⟩ := by
  unfold dot
  refine Finset.sum_congr rfl fun r _ => congrArg (q (ValueIdx.ix2 r a) * ·) ?_
  unfold chunk
  refine View.ld_unit_apply_of k _ _ _ _ _ fun b => ?_
  match b with
  | ⟨0, _⟩ => exact (Nat.zero_add _).symm
  | ⟨1, _⟩ => rfl

/-- What bounds the smallest products after `n` chunks from below. -/
theorem le_best (q : FVec Ideal S32x4352 .bf16) (k : Vec Ideal S32x17408 .bf16) (a : Fin 4352) (l : Fin 128) (z : EReal) :
    ∀ (n : ℕ) (h : n < 17), z ≤ best q k n h (ValueIdx.ix2 a l) ↔
      ∀ (j : Fin 17) (g : Fin 8), j.val ≤ n → z ≤ dot q k a ⟨1024 * j.val + (128 * g.val + l.val), by omega⟩ := by
  have one (j : Fin 17) : z ≤ fold8 (dots q (chunk k j)) (ValueIdx.ix2 a l) ↔
      ∀ g : Fin 8, z ≤ dot q k a ⟨1024 * j.val + (128 * g.val + l.val), by omega⟩ := by
    rw [le_fold8]
    refine forall_congr' fun g => ?_
    rw [dots_apply, dot_chunk]
  intro n
  induction n with
  | zero =>
    intro h
    show z ≤ fold8 (dots q (chunk k ⟨0, h⟩)) (ValueIdx.ix2 a l) ↔ _
    rw [one]
    constructor
    · intro H j g hj
      obtain rfl : j = ⟨0, h⟩ := Fin.ext (Nat.le_zero.1 hj)
      exact H g
    · intro H g
      exact H ⟨0, h⟩ g (Nat.le_refl _)
  | succ n ih =>
    intro h
    show z ≤ min (best q k n (Nat.lt_of_succ_lt h) (ValueIdx.ix2 a l)) (fold8 (dots q (chunk k ⟨n + 1, h⟩)) (ValueIdx.ix2 a l)) ↔ _
    rw [le_min_iff, ih, one]
    constructor
    · rintro ⟨H, H'⟩ j g hj
      rcases Nat.lt_or_ge j.val (n + 1) with hlt | hge
      · exact H j g (Nat.le_of_lt_succ hlt)
      · obtain rfl : j = ⟨n + 1, h⟩ := Fin.ext (Nat.le_antisymm hj hge)
        exact H' g
    · intro H
      exact ⟨fun j g hj => H j g (Nat.le_succ_of_le hj), fun g => H ⟨n + 1, h⟩ g (Nat.le_refl _)⟩

/-- What bounds the smallest lane of a row from below. -/
theorem le_mins (b : FVec Ideal S4352x128 .f32) (a : Fin 4352) (z : EReal) :
    z ≤ mins b (ValueIdx.ix1 a) ↔ ∀ l : Fin 128, z ≤ b (ValueIdx.ix2 a l) := by
  have e := (multiReduction_minimumf_eq_fold (F := Ideal) b 0x7F800000#32 reduces_S4352x128_S4352 (.inl rfl) rfl (ValueIdx.ix1 a)).trans
    (Shape.Reduces.fold_filter_drop_single reduces_S4352x128_S4352 (FloatOps.minimumf (F := Ideal) (φ := .f32)) _ b (ValueIdx.ix1 a))
  refine (Iff.of_eq (congrArg (z ≤ ·) e)).trans ?_
  refine (Finset.le_fold_min (α := Fin 128) (β := EReal) z).trans ?_
  have top : (FloatOps.ofBits (F := Ideal) .f32 0x7F800000#32 : EReal) = ⊤ := by
    show Ideal.ofBits .f32 0x7F800000#32 = ⊤
    simp [Ideal.ofBits, Ideal.ieee]
  constructor
  · intro H l
    refine (H.2 l (Finset.mem_univ _)).trans (le_of_eq (congrArg b (funext fun c => ?_)))
    match c with
    | ⟨0, _⟩ => rfl
    | ⟨1, _⟩ => rfl
  · intro H
    refine ⟨by rw [top]; exact le_top, fun l _ => (H l).trans (le_of_eq (congrArg b (funext fun c => ?_)))⟩
    match c with
    | ⟨0, _⟩ => rfl
    | ⟨1, _⟩ => rfl

/-- The smallest product of query column `a`: bounded below by exactly what bounds its product with every searched column. -/
theorem le_mins_best (q : FVec Ideal S32x4352 .bf16) (k : Vec Ideal S32x17408 .bf16) (a : Fin 4352) (z : EReal) :
    z ≤ mins (best q k 16 (by decide)) (ValueIdx.ix1 a) ↔ ∀ n : Fin 17408, z ≤ dot q k a n := by
  rw [le_mins]
  constructor
  · intro H n
    have hl : n.val % 128 < 128 := Nat.mod_lt _ (by decide)
    have hg : n.val / 128 % 8 < 8 := Nat.mod_lt _ (by decide)
    have hj : n.val / 1024 < 17 := by omega
    have := (le_best q k a ⟨n.val % 128, hl⟩ z 16 (by decide)).1 (H _) ⟨n.val / 1024, hj⟩ ⟨n.val / 128 % 8, hg⟩ (by show n.val / 1024 ≤ 16; omega)
    refine this.trans (le_of_eq (congrArg (dot q k a) (Fin.ext ?_)))
    show 1024 * (n.val / 1024) + (128 * (n.val / 128 % 8) + n.val % 128) = n.val
    omega
  · intro H l
    exact (le_best q k a l z 16 (by decide)).2 fun j g _ => H _

end Cert.KernelIdeal.Out

end
-- ==== Proof.TileSum.lean ====
/- Hand-written, untrusted: the sums the kernel's body takes over one tile, over the extended reals. -/
module

public import proofs.«01_k».proof.Proof.KernelOut
public import Idealize.ShloMosaic.Lib.ValueIdxCore
public import Idealize.ShloMosaic.Lib.Pointwise

@[expose] public section

set_option maxRecDepth 16384

noncomputable section

namespace Cert.KernelIdeal.Out

open Idealize.ShloMosaic Idealize.ShloMosaic.TcCoe Idealize.SL.Sem
open Cert.KernelIdeal Cert.KernelIdeal.Gen

/-- The sum over an array of one block, each term read back from the array the block was laid out from. -/
theorem sum_cast {s t : Shape} (h : s.ShapeCasts t) (x : s.Idx → EReal) : ∑ i, shapeCast t x h i = ∑ i, x i :=
  Equiv.sum_comp (Shape.reshapeEquiv h) x

/-- The sum over the indices of a vector is the sum over its one coordinate. -/
theorem sum_vec {n : Nat} (f : (⟨1, ![n]⟩ : Shape).Idx → EReal) : ∑ i, f i = ∑ a : Fin n, f (ValueIdx.ix1 a) :=
  (Equiv.sum_comp (⟨fun a => ValueIdx.ix1 a, fun i => i 0, fun _ => rfl, fun i => (ValueIdx.eq_ix1 i).symm⟩ :
    Fin n ≃ (⟨1, ![n]⟩ : Shape).Idx) f).symm

/-- The sum of the smallest entries of the rows. -/
theorem minSum_eq (b : FVec Ideal S4352x128 .f32) : minSum b = ∑ a : Fin 4352, (mins b (ValueIdx.ix1 a) : EReal) := by
  refine (Ideal.multiReduction_add_total _ 0x00000000#32 reduces_S1x4352x1_S1 (by decide) (.inl rfl) rfl _).trans ?_
  refine (sum_cast shapeCasts_S4352x1_S1x4352x1 _).trans ((sum_cast shapeCasts_S4352_S4352x1 _).trans ?_)
  exact sum_vec _

/-- The sum of the squares of a tile. -/
theorem squareSum_eq (q : FVec Ideal S32x4352 .bf16) :
    squareSum q = ∑ r : Fin 32, ∑ a : Fin 4352, (q (ValueIdx.ix2 r a) : EReal) * q (ValueIdx.ix2 r a) := by
  refine (Ideal.multiReduction_add_total _ 0x00000000#32 reduces_S1x32x4352_S1 (by decide) (.inl rfl) rfl _).trans ?_
  refine (sum_cast shapeCasts_S32x4352_S1x32x4352 _).trans ?_
  exact ValueIdx.sum_idx2 _

/-- The number of query columns of tile `t` that lie before the padding. -/
def real (t : Fin 4) : ℕ := min (16928 - 4352 * t.val) 4352

/-- The body's count of them. -/
theorem realCols_eq (t : Fin 4) : realCols (F := Ideal) t.val = (((real t : ℕ) : ℝ) : EReal) := by
  have e : ∀ t : Fin 4, (Scalar.minsi (Scalar.subi 16928#32 (Scalar.muli (BitVec.ofNat 32 t.val) 4352#32)) 4352#32).toInt
      = ((real t : ℕ) : ℤ) := by decide
  show (((Scalar.minsi (Scalar.subi 16928#32 (Scalar.muli (BitVec.ofNat 32 t.val) 4352#32)) 4352#32).toInt : ℝ) : EReal) = _
  rw [e t, Int.cast_natCast]

/-- The constant two. -/
theorem two_eq : (Scalar.ofBits (F := Ideal) .f32 0x40000000#32 : EReal) = ((2 : ℝ) : EReal) := by
  show Ideal.ofBits .f32 0x40000000#32 = _
  simp [Ideal.ofBits, Ideal.ieee]
  rw [← EReal.coe_mul]
  norm_num

/-- A tile's contribution. -/
theorem total_eq (t : Fin 4) (q : FVec Ideal S32x4352 .bf16) (b : FVec Ideal S4352x128 .f32) :
    total t.val q b = (∑ r : Fin 32, ∑ a : Fin 4352, (q (ValueIdx.ix2 r a) : EReal) * q (ValueIdx.ix2 r a))
      - ((2 : ℝ) : EReal) * (((real t : ℕ) : ℝ) : EReal) + ∑ a : Fin 4352, (mins b (ValueIdx.ix1 a) : EReal) := by
  rw [← minSum_eq, ← squareSum_eq, ← realCols_eq, ← two_eq]
  rfl

end Cert.KernelIdeal.Out

end
-- ==== Proof.KernelHost.lean ====
/- Hand-written, untrusted: what the kernel program's host operations leave in the two arrays the kernel reads. -/
module

public import proofs.«01_k».proof.Proof.Gen.KernelIdeal.Frame.Runs
public import proofs.«01_k».proof.Proof.Patch
public import Idealize.ShloMosaic.Lib.StableHlo.Run

@[expose] public section

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen Cert.Proof

variable {F : FTy → Type} [FloatOps F]

/-- Window `r` of a video, ready to be stacked along a new first axis. -/
def slab (x : FVec F S1x1x2x96x96 .f32) (r : Fin 25) : FVec F S1x2x92x92 .f32 :=
  broadcastInDim S1x2x92x92 ![1, 2, 3] bcast_S2x92x92_S1x2x92x92_1_2_3
    (shapeCast S2x92x92 (window x r) shapeCasts_S1x1x2x92x92_S2x92x92)

/-- The twenty-five windows of a video as the rows of a `25 × 16928` matrix. -/
def rows (x : FVec F S1x1x2x96x96 .f32) : FVec F S25x16928 .f32 :=
  shapeCast S25x16928 (concatenate S25x2x92x92 0
    [⟨S16x2x92x92, concatenate S16x2x92x92 0
        (List.ofFn fun r : Fin 16 => (⟨S1x2x92x92, slab x ⟨r.val, by omega⟩⟩ : (s : Shape) × (s.Idx → F .f32)))
        concatenates_S1x2x92x92_S1x2x92x92_S1x2x92x92_S1x2x92x92_S1x2x92x92_S1x2x92x92_S1x2x92x92_S1x2x92x92_S1x2x92x92_S1x2x92x92_S1x2x92x92_S1x2x92x92_S1x2x92x92_S1x2x92x92_S1x2x92x92_S1x2x92x92_S16x2x92x92_d0⟩,
     ⟨S9x2x92x92, concatenate S9x2x92x92 0
        (List.ofFn fun r : Fin 9 => (⟨S1x2x92x92, slab x ⟨16 + r.val, by omega⟩⟩ : (s : Shape) × (s.Idx → F .f32)))
        concatenates_S1x2x92x92_S1x2x92x92_S1x2x92x92_S1x2x92x92_S1x2x92x92_S1x2x92x92_S1x2x92x92_S1x2x92x92_S1x2x92x92_S9x2x92x92_d0⟩]
    concatenates_S16x2x92x92_S9x2x92x92_S25x2x92x92_d0) shapeCasts_S25x2x92x92_S25x16928

/-- The query rows under two rows of ones, narrowed. -/
def queryRows (x : FVec F S1x1x2x96x96 .f32) : FVec F S27x16928 .bf16 :=
  truncf .bf16 (concatenate S27x16928 0 [⟨S25x16928, rows x⟩,
    ⟨S2x16928, broadcastInDim S2x16928 ![] bcast_S_S2x16928 (constant S_ .f32 0x3F800000#32)⟩]
    concatenates_S25x16928_S2x16928_S27x16928_d0) bitsLt_bf16_f32

set_option maxHeartbeats 4000000 in
/-- The query rows after the first stretch of host operations. -/
theorem after_v78 (V : Valuation τ sig (Elt F)) :
    after (hostOps0.take 79) V (Proc.devRef .tc main_v78) = rows (V (Proc.devRef .tc main_arg0)) := by
  simp only [hostOps0, List.take_succ_cons, List.take_zero]
  after_results_simp
  try dsimp only [Matrix.cons_val]
  try after_results_simp
  all_goals rfl

end Cert.KernelIdeal.Host

end
-- ==== Proof.Pix.lean ====
/- Hand-written, untrusted: the position in the video of each entry of each patch. -/
module

public import proofs.«01_k».proof.Proof.Patch
public import Idealize.ShloMosaic.Lib.ValueIdxCore

@[expose] public section

set_option maxRecDepth 16384

noncomputable section

namespace Cert.Proof

open Idealize.ShloMosaic

/-- Where in the video entry `r` of the patch at position `n` lies: positions run over frame, row and column. -/
def pix (r : Fin 25) (n : Fin 16928) : Vid.Idx :=
  ValueIdx.ix5 (0 : Fin 1) (0 : Fin 1) (⟨n.val / 8464, by omega⟩ : Fin 2)
    (⟨n.val / 92 % 92 + r.val / 5, by omega⟩ : Fin 96) (⟨n.val % 92 + r.val % 5, by omega⟩ : Fin 96)

end Cert.Proof

end
-- ==== Proof.KernelVal.lean ====
/- Hand-written, untrusted: which entry of a video each entry of the kernel program's patch rows is. -/
module

public import proofs.«01_k».proof.Proof.KernelHost
public import proofs.«01_k».proof.Proof.Pix

@[expose] public section

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen Cert.Proof

variable {F : FTy → Type} [FloatOps F]

/-- A window stacked as a slab has, at frame `f`, row `a`, column `b`, the video's entry displaced by the window. -/
theorem slab_apply (x : FVec F S1x1x2x96x96 .f32) (r : Fin 25) (i : S1x2x92x92.Idx) (p : Vid.Idx)
    (h0 : (p 0).val = 0) (h1 : (p 1).val = 0) (h2 : (p 2).val = (i 1).val) (h3 : (p 3).val = (i 2).val + r.val / 5)
    (h4 : (p 4).val = (i 3).val + r.val % 5) : slab x r i = x p := by
  unfold slab
  refine Eq.trans (broadcastInDim_apply _ _ _ _ (ValueIdx.ix3 (i 1 : Fin 2) (i 2 : Fin 92) (i 3 : Fin 92)) (fun a => by
    match a with
    | ⟨0, _⟩ => rfl
    | ⟨1, _⟩ => rfl
    | ⟨2, _⟩ => rfl)) ?_
  refine Eq.trans (shapeCast_apply _ _ _ (ValueIdx.ix5 (0 : Fin 1) (0 : Fin 1) (i 1 : Fin 2) (i 2 : Fin 92) (i 3 : Fin 92)) (by
    exact (rowMajor_val5 (d := ![1, 1, 2, 92, 92]) (ValueIdx.ix5 (0 : Fin 1) (0 : Fin 1) (i 1 : Fin 2) (i 2 : Fin 92) (i 3 : Fin 92)) 16928 16928 8464 92 rfl rfl rfl rfl).trans
      (Eq.trans (by show 0 * 16928 + 0 * 16928 + _ + _ + _ = _; rw [Nat.zero_mul, Nat.zero_add])
        (rowMajor_val3 (d := ![2, 92, 92]) (ValueIdx.ix3 (i 1 : Fin 2) (i 2 : Fin 92) (i 3 : Fin 92)) 8464 92 rfl rfl).symm))) ?_
  unfold window
  refine extractStridedSlice_apply _ _ _ _ _ fun a => ?_
  match a with
  | ⟨0, _⟩ => exact h0
  | ⟨1, _⟩ => exact h1
  | ⟨2, _⟩ => exact h2.trans (Nat.zero_add _).symm
  | ⟨3, _⟩ => exact h3.trans (Nat.add_comm _ _)
  | ⟨4, _⟩ => exact h4.trans (Nat.add_comm _ _)

/-- Entry `n` of row `r` of the patch rows is entry `r` of the patch at position `n`. -/
theorem rows_apply (x : FVec F S1x1x2x96x96 .f32) (r : Fin 25) (n : Fin 16928) : rows x (ValueIdx.ix2 r n) = x (pix r n) := by
  have hf : n.val / 8464 < 2 := by omega
  have ha : n.val / 92 % 92 < 92 := by omega
  have hb : n.val % 92 < 92 := by omega
  unfold rows
  refine Eq.trans (shapeCast_apply _ _ _ (ValueIdx.ix4 r (⟨n.val / 8464, hf⟩ : Fin 2) (⟨n.val / 92 % 92, ha⟩ : Fin 92) (⟨n.val % 92, hb⟩ : Fin 92)) (by
    exact (rowMajor_val4 (d := ![25, 2, 92, 92]) (ValueIdx.ix4 r (⟨n.val / 8464, hf⟩ : Fin 2) (⟨n.val / 92 % 92, ha⟩ : Fin 92) (⟨n.val % 92, hb⟩ : Fin 92)) 16928 8464 92 rfl rfl rfl).trans
      (Eq.trans (by show r.val * 16928 + n.val / 8464 * 8464 + n.val / 92 % 92 * 92 + n.val % 92 = r.val * 16928 + n.val; omega)
        (rowMajor_val2 (d := ![25, 16928]) (ValueIdx.ix2 r n) 16928 rfl).symm))) ?_
  by_cases hr : r.val < 16
  · refine Eq.trans (concatenate_pair_apply_left (t := S25x2x92x92) (s₁ := S16x2x92x92) (s₂ := S9x2x92x92) 0 _ _ _ _ rfl
      (ValueIdx.ix4 (⟨r.val, hr⟩ : Fin 16) (⟨n.val / 8464, hf⟩ : Fin 2) (⟨n.val / 92 % 92, ha⟩ : Fin 92) (⟨n.val % 92, hb⟩ : Fin 92))
      (fun b => by
        match b with
        | ⟨0, _⟩ => rfl
        | ⟨1, _⟩ => rfl
        | ⟨2, _⟩ => rfl
        | ⟨3, _⟩ => rfl)) ?_
    refine Eq.trans (concatenate_ofFn_unit_apply (t := S16x2x92x92) (s₁ := S1x2x92x92) 0 (fun r : Fin 16 => slab x ⟨r.val, by omega⟩) _ rfl rfl _ ⟨r.val, hr⟩ (by exact rfl)
      (ValueIdx.ix4 (0 : Fin 1) (⟨n.val / 8464, hf⟩ : Fin 2) (⟨n.val / 92 % 92, ha⟩ : Fin 92) (⟨n.val % 92, hb⟩ : Fin 92))
      (fun b hb => by
        match b with
        | ⟨0, _⟩ => exact absurd rfl hb
        | ⟨1, _⟩ => rfl
        | ⟨2, _⟩ => rfl
        | ⟨3, _⟩ => rfl)) ?_
    exact slab_apply x _ _ _ rfl rfl rfl rfl rfl
  · have hr' : r.val - 16 < 9 := by omega
    refine Eq.trans (concatenate_pair_apply_right (t := S25x2x92x92) (s₁ := S16x2x92x92) (s₂ := S9x2x92x92) 0 _ _ _ _ rfl rfl
      (ValueIdx.ix4 (⟨r.val - 16, hr'⟩ : Fin 9) (⟨n.val / 8464, hf⟩ : Fin 2) (⟨n.val / 92 % 92, ha⟩ : Fin 92) (⟨n.val % 92, hb⟩ : Fin 92))
      (fun b hb => by
        match b with
        | ⟨0, _⟩ => exact absurd rfl hb
        | ⟨1, _⟩ => rfl
        | ⟨2, _⟩ => rfl
        | ⟨3, _⟩ => rfl) (by show r.val - 16 + 16 = r.val; omega)) ?_
    refine Eq.trans (concatenate_ofFn_unit_apply (t := S9x2x92x92) (s₁ := S1x2x92x92) 0 (fun r : Fin 9 => slab x ⟨16 + r.val, by omega⟩) _ rfl rfl _ ⟨r.val - 16, hr'⟩ (by exact rfl)
      (ValueIdx.ix4 (0 : Fin 1) (⟨n.val / 8464, hf⟩ : Fin 2) (⟨n.val / 92 % 92, ha⟩ : Fin 92) (⟨n.val % 92, hb⟩ : Fin 92))
      (fun b hb => by
        match b with
        | ⟨0, _⟩ => exact absurd rfl hb
        | ⟨1, _⟩ => rfl
        | ⟨2, _⟩ => rfl
        | ⟨3, _⟩ => rfl)) ?_
    have e : (⟨16 + (r.val - 16), by omega⟩ : Fin 25) = r := Fin.ext (by show 16 + (r.val - 16) = r.val; omega)
    show slab x ⟨16 + (r.val - 16), _⟩ _ = _
    rw [e]
    exact slab_apply x _ _ _ rfl rfl rfl rfl rfl

end Cert.KernelIdeal.Host

end
-- ==== Proof.KernelHost2.lean ====
/- Hand-written, untrusted: the second stretch of the kernel program's host operations, over the second argument. -/
module

public import proofs.«01_k».proof.Proof.KernelHost

@[expose] public section

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen Cert.Proof

variable {F : FTy → Type} [FloatOps F]

set_option maxHeartbeats 4000000 in
/-- The searched rows after the second stretch of host operations. -/
theorem after_v157 (V : Valuation τ sig (Elt F)) :
    after ((hostOps0.drop 79).take 79) V (Proc.devRef .tc main_v157) = rows (V (Proc.devRef .tc main_arg1)) := by
  simp only [hostOps0, List.drop_succ_cons, List.drop_zero, List.take_succ_cons, List.take_zero]
  after_results_simp
  try dsimp only [Matrix.cons_val]
  try after_results_simp
  all_goals rfl

end Cert.KernelIdeal.Host

end
-- ==== Proof.KernelArr.lean ====
/- Hand-written, untrusted: the two arrays the kernel reads, as expressions of the program's arguments. -/
module

public import proofs.«01_k».proof.Proof.KernelHost2

@[expose] public section

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen Cert.Proof

variable {F : FTy → Type} [FloatOps F]

/-- The query columns: the query rows under two rows of ones, padded with zeros. -/
def queryArr (x : FVec F S1x1x2x96x96 .f32) : FVec F S32x17408 .bf16 :=
  pad S32x17408 ![0, 0] ![5, 480] ![0, 0] (queryRows x) (sitofp .bf16 (constantI S_ 32 0#32))
    pads_S27x16928_S32x17408_050_04800 h_S_

/-- The squared length of each searched column, a large number in each padding column. -/
def lengths (w : FVec F S25x16928 .f32) : FVec F S17408 .f32 :=
  concatenate S17408 0
    [⟨S16928, Host.reduceAdd (mulf w w) (constant S_ .f32 0x00000000#32) reducesTo_S25x16928_S16928_d0 h_S_⟩,
     ⟨S480, broadcastInDim S480 ![] bcast_S_S480 (constant S_ .f32 0x7149F2CA#32)⟩] concatenates_S16928_S480_S17408_d0

/-- The part of a squared length the narrow format holds. -/
def lengthsHi (w : FVec F S25x16928 .f32) : FVec F S17408 .f32 :=
  extf .f32 (truncf .bf16 (lengths w) bitsLt_bf16_f32) bitsLt_bf16_f32

/-- The searched columns before padding: minus twice the rows, the lengths, what the narrow format lost of them. -/
def searchRows (w : FVec F S25x16928 .f32) : FVec F S27x17408 .bf16 :=
  truncf .bf16 (concatenate S27x17408 0
    [⟨S25x17408, mulf (broadcastInDim S25x17408 ![] bcast_S_S25x17408 (constant S_ .f32 0xC0000000#32))
        (pad S25x17408 ![0, 0] ![0, 480] ![0, 0] w (sitofp .f32 (constantI S_ 32 0#32)) pads_S25x16928_S25x17408_000_04800 h_S_)⟩,
     ⟨S1x17408, broadcastInDim S1x17408 ![1] bcast_S17408_S1x17408_1 (lengthsHi w)⟩,
     ⟨S1x17408, broadcastInDim S1x17408 ![1] bcast_S17408_S1x17408_1 (subf (lengths w) (lengthsHi w))⟩]
    concatenates_S25x17408_S1x17408_S1x17408_S27x17408_d0) bitsLt_bf16_f32

/-- The searched columns: the rows above, padded with rows of zeros. -/
def searchArr (w : FVec F S25x16928 .f32) : FVec F S32x17408 .bf16 :=
  pad S32x17408 ![0, 0] ![5, 0] ![0, 0] (searchRows w) (sitofp .bf16 (constantI S_ 32 0#32))
    pads_S27x17408_S32x17408_050_000 h_S_

/-- The first stretch leaves the second argument. -/
theorem kept_arg1 (V : Valuation τ sig (Elt F)) :
    after (hostOps0.take 79) V (Proc.devRef .tc main_arg1) = V (Proc.devRef .tc main_arg1) := by
  simp only [hostOps0, List.take_succ_cons, List.take_zero]
  after_results_simp

/-- The second stretch leaves the query rows. -/
theorem kept_v78 (V : Valuation τ sig (Elt F)) :
    after ((hostOps0.drop 79).take 79) V (Proc.devRef .tc main_v78) = V (Proc.devRef .tc main_v78) := by
  simp only [hostOps0, List.drop_succ_cons, List.drop_zero, List.take_succ_cons, List.take_zero]
  after_results_simp

/-- What the remaining host operations before the kernel start from. -/
theorem split (V : Valuation τ sig (Elt F)) :
    after (List.flatten [hostOps0, hostOps0_1, hostOps0_2, hostOps0_3, hostOps0_4, hostOps0_5]) V
      = after (hostOps0.drop 158 ++ (hostOps0_1 ++ (hostOps0_2 ++ (hostOps0_3 ++ (hostOps0_4 ++ hostOps0_5)))))
          (after ((hostOps0.drop 79).take 79) (after (hostOps0.take 79) V)) := by
  have e : (hostOps0 : List (HloOp τ sig (Elt F))) = hostOps0.take 79 ++ ((hostOps0.drop 79).take 79 ++ hostOps0.drop 158) := by
    conv_lhs => rw [← List.take_append_drop 79 hostOps0, ← List.take_append_drop 79 (hostOps0.drop 79), List.drop_drop]
  rw [← after_append, ← after_append]
  simp only [List.flatten_cons, List.flatten_nil, List.append_nil]
  refine congrArg (fun l => after l V) ?_
  conv_lhs => rw [e]
  simp only [List.append_assoc]

/-- The remaining operations leave the query columns. -/
theorem rest_v161 (V : Valuation τ sig (Elt F)) :
    after (hostOps0.drop 158 ++ (hostOps0_1 ++ (hostOps0_2 ++ (hostOps0_3 ++ (hostOps0_4 ++ hostOps0_5))))) V (Proc.devRef .tc main_v161)
      = pad S32x17408 ![0, 0] ![5, 480] ![0, 0] (truncf .bf16 (concatenate S27x16928 0 [⟨S25x16928, V (Proc.devRef .tc main_v78)⟩,
    ⟨S2x16928, broadcastInDim S2x16928 ![] bcast_S_S2x16928 (constant S_ .f32 0x3F800000#32)⟩]
    concatenates_S25x16928_S2x16928_S27x16928_d0) bitsLt_bf16_f32) (sitofp .bf16 (constantI S_ 32 0#32))
    pads_S27x16928_S32x17408_050_04800 h_S_ := by
  simp only [hostOps0, hostOps0_1, hostOps0_2, hostOps0_3, hostOps0_4, hostOps0_5, List.drop_succ_cons, List.drop_zero,
    List.cons_append, List.nil_append]
  after_results_simp
  all_goals rfl

/-- The remaining operations leave the searched columns. -/
theorem rest_v176 (V : Valuation τ sig (Elt F)) :
    after (hostOps0.drop 158 ++ (hostOps0_1 ++ (hostOps0_2 ++ (hostOps0_3 ++ (hostOps0_4 ++ hostOps0_5))))) V (Proc.devRef .tc main_v176)
      = searchArr (V (Proc.devRef .tc main_v157)) := by
  simp only [hostOps0, hostOps0_1, hostOps0_2, hostOps0_3, hostOps0_4, hostOps0_5, List.drop_succ_cons, List.drop_zero,
    List.cons_append, List.nil_append]
  after_results_simp
  try dsimp only [Matrix.cons_val]
  try after_results_simp
  all_goals rfl

variable (m : (ℓ : Loc nD τ sig) → Buf (Elt F) ℓ)

/-- The first array the kernel reads. -/
theorem query_eq (c : Dev nD) : V m c main_v161 = queryArr (m ((c : Thread nD τ).loc main_arg0)) := by
  unfold V V0
  rw [split, rest_v161, kept_v78, after_v78]
  rfl

/-- The second array the kernel reads. -/
theorem search_eq (c : Dev nD) : V m c main_v176 = searchArr (rows (m ((c : Thread nD τ).loc main_arg1))) := by
  unfold V V0
  rw [split, rest_v176, after_v157, kept_arg1]

end Cert.KernelIdeal.Host

end
-- ==== Proof.Spec.lean ====
/- Hand-written, untrusted: the arrays the kernel reads, as arrays of real numbers, when the videos hold real numbers. -/
module

public import proofs.«01_k».proof.Proof.Pix
public import Idealize.ShloMosaic.PureOps.Ideal.Laws

@[expose] public section

set_option maxRecDepth 16384

noncomputable section

namespace Cert.Proof

open Idealize.ShloMosaic

/-- A finite sum of real numbers is the same sum among the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The large number the padding columns carry for their length. -/
def big : ℝ := 13234890 * 2 ^ 76

/-- The squared length of the patch at position `n`. -/
def len (Y : Vid.Idx → ℝ) (n : Fin 16928) : ℝ := ∑ r : Fin 25, Y (pix r n) * Y (pix r n)

/-- The length the kernel works with: the large number past the last position. -/
def lenPad (Y : Vid.Idx → ℝ) (n : Fin 17408) : ℝ := if h : n.val < 16928 then len Y ⟨n.val, h⟩ else big

/-- The query columns: patches over two ones, zero elsewhere. -/
def Q (X : Vid.Idx → ℝ) (r : Fin 32) (n : Fin 17408) : ℝ :=
  if hn : n.val < 16928 then (if hr : r.val < 25 then X (pix ⟨r.val, hr⟩ ⟨n.val, hn⟩) else if r.val < 27 then 1 else 0) else 0

/-- The searched columns: minus twice the patches, over their lengths, zero elsewhere. -/
def K (Y : Vid.Idx → ℝ) (r : Fin 32) (n : Fin 17408) : ℝ :=
  if hr : r.val < 25 then (if hn : n.val < 16928 then -2 * Y (pix ⟨r.val, hr⟩ ⟨n.val, hn⟩) else 0)
  else if r.val = 25 then lenPad Y n else 0

end Cert.Proof

end
-- ==== Proof.QueryVal.lean ====
/- Hand-written, untrusted: the entries of the query columns the kernel reads. -/
module

public import proofs.«01_k».proof.Proof.KernelVal
public import proofs.«01_k».proof.Proof.KernelArr
public import proofs.«01_k».proof.Proof.Spec
public import Idealize.ShloMosaic.Lib.KernelVsHost

@[expose] public section

set_option maxRecDepth 16384

noncomputable section

namespace Cert.KernelIdeal.Host

open Idealize.ShloMosaic
open Cert.KernelIdeal Cert.KernelIdeal.Gen Cert.Proof

/-- The constant one. -/
theorem one_eq : (FloatOps.ofBits (F := Ideal) .f32 0x3F800000#32 : EReal) = ((1 : ℝ) : EReal) := by
  show Ideal.ofBits .f32 0x3F800000#32 = _
  simp [Ideal.ofBits, Ideal.ieee]
  first | done | (rw [← EReal.coe_mul]; norm_num)

/-- The padding value is zero. -/
theorem padding_eq {φ : FTy} (i : S_.Idx) : (sitofp φ (constantI S_ 32 0#32) : FVec Ideal S_ φ) i = ((0 : ℝ) : EReal) := by
  show ((((0#32 : BitVec 32).toInt : ℤ) : ℝ) : EReal) = _
  norm_num

/-- The rows of patches over two rows of ones. -/
theorem queryRows_apply (X : Vid.Idx → ℝ) (r : Fin 27) (n : Fin 16928) :
    queryRows (F := Ideal) (fun i => ((X i : ℝ) : EReal)) (ValueIdx.ix2 r n)
      = ((if hr : r.val < 25 then X (pix ⟨r.val, hr⟩ n) else 1 : ℝ) : EReal) := by
  unfold queryRows
  by_cases hr : r.val < 25
  · rw [dif_pos hr]
    refine Eq.trans (concatenate_pair_apply_left (t := S27x16928) (s₁ := S25x16928) (s₂ := S2x16928) 0 _ _ concatenates_S25x16928_S2x16928_S27x16928_d0 _ rfl
      (ValueIdx.ix2 (⟨r.val, hr⟩ : Fin 25) n) (fun b => by
        match b with
        | ⟨0, _⟩ => rfl
        | ⟨1, _⟩ => rfl)) ?_
    exact rows_apply (F := Ideal) _ _ _
  · rw [dif_neg hr]
    refine Eq.trans (concatenate_pair_apply_right (t := S27x16928) (s₁ := S25x16928) (s₂ := S2x16928) 0 _ _ concatenates_S25x16928_S2x16928_S27x16928_d0 _ rfl rfl
      (ValueIdx.ix2 (⟨r.val - 25, by omega⟩ : Fin 2) n) (fun b hb => by
        match b with
        | ⟨0, _⟩ => exact absurd rfl hb
        | ⟨1, _⟩ => rfl) (by show r.val - 25 + 25 = r.val; omega)) ?_
    exact one_eq

/-- The query columns are the real query columns. -/
theorem queryArr_apply (X : Vid.Idx → ℝ) (r : Fin 32) (n : Fin 17408) :
    queryArr (F := Ideal) (fun i => ((X i : ℝ) : EReal)) (ValueIdx.ix2 r n) = ((Q X r n : ℝ) : EReal) := by
  unfold queryArr Q
  by_cases hn : n.val < 16928
  · rw [dif_pos hn]
    by_cases h27 : r.val < 27
    · refine Eq.trans (pad_apply_of_inside _ _ _ _ _ _ _ _ (ValueIdx.ix2 (⟨r.val, h27⟩ : Fin 27) (⟨n.val, hn⟩ : Fin 16928)) (fun a => by
        match a with
        | ⟨0, _⟩ => show r.val = 0 + r.val * (0 + 1); omega
        | ⟨1, _⟩ => show n.val = 0 + n.val * (0 + 1); omega)) ?_
      rw [queryRows_apply]
      by_cases hr : r.val < 25
      · rw [dif_pos hr, dif_pos hr]
      · rw [dif_neg hr, dif_neg hr, if_pos h27]
    · rw [dif_neg (by omega), if_neg h27]
      refine Eq.trans (pad_apply_of_not_inside _ _ _ _ _ _ _ _ 0 (fun h => ?_)) (padding_eq _)
      have h2 : (r.val - 0) / (0 + 1) < 27 := h.2.2
      omega
  · rw [dif_neg hn]
    refine Eq.trans (pad_apply_of_not_inside _ _ _ _ _ _ _ _ 1 (fun h => ?_)) (padding_eq _)
    have h2 : (n.val - 0) / (0 + 1) < 16928 := h.2.2
    omega

end Cert.KernelIdeal.Host

end
-- ==== Proof.SearchVal.lean ====
/- Hand-written, untrusted: the entries of the searched columns the kernel reads. -/
module

public import proofs.«01_k».proof.Proof.QueryVal

@[expose] public section

set_option maxRecDepth 16384

noncomputable section

namespace Cert.KernelIdeal.Host

open Idealize.ShloMosaic
open Cert.KernelIdeal Cert.KernelIdeal.Gen Cert.Proof

/-- The constant minus two. -/
theorem negTwo_eq : (FloatOps.ofBits (F := Ideal) .f32 0xC0000000#32 : EReal) = ((-2 : ℝ) : EReal) := by
  show Ideal.ofBits .f32 0xC0000000#32 = _
  simp [Ideal.ofBits, Ideal.ieee]
  first | done | (rw [← EReal.coe_mul]; norm_num)

/-- The large constant. -/
theorem big_eq : (FloatOps.ofBits (F := Ideal) .f32 0x7149F2CA#32 : EReal) = ((big : ℝ) : EReal) := by
  show Ideal.ofBits .f32 0x7149F2CA#32 = _
  simp [Ideal.ofBits, Ideal.ieee, big]
  first | done | (rw [← EReal.coe_mul]; norm_num)

/-- The rows of patches of a video of real numbers. -/
abbrev realRows (Y : Vid.Idx → ℝ) : FVec Ideal S25x16928 .f32 := rows (F := Ideal) (fun i => ((Y i : ℝ) : EReal))

/-- The lengths are the real lengths. -/
theorem lengths_apply (Y : Vid.Idx → ℝ) (n : Fin 17408) :
    lengths (F := Ideal) (realRows Y) (ValueIdx.ix1 n) = ((lenPad Y n : ℝ) : EReal) := by
  unfold lengths lenPad
  by_cases hn : n.val < 16928
  · rw [dif_pos hn]
    refine Eq.trans (concatenate_pair_apply_left (t := S17408) (s₁ := S16928) (s₂ := S480) 0 _ _ _ _ rfl
      (ValueIdx.ix1 (⟨n.val, hn⟩ : Fin 16928)) (fun b => by
        match b with
        | ⟨0, _⟩ => rfl)) ?_
    refine (Ideal.hostReduceAdd_single reducesTo_S25x16928_S16928_d0 (by decide) _ _ _).trans ?_
    show Ideal.ofBits .f32 0x00000000#32 + _ = _
    rw [Ideal.ofBits_zero_f32, zero_add]
    unfold len
    rw [← coe_sum]
    refine Finset.sum_congr rfl fun r _ => ?_
    have e := rows_apply (F := Ideal) (fun i => ((Y i : ℝ) : EReal)) r ⟨n.val, hn⟩
    rw [EReal.coe_mul]
    refine congrArg₂ (· * ·) (Eq.trans (congrArg (realRows Y) (funext fun c => ?_)) e) (Eq.trans (congrArg (realRows Y) (funext fun c => ?_)) e)
    · match c with
      | ⟨0, _⟩ => rfl
      | ⟨1, _⟩ => rfl
    · match c with
      | ⟨0, _⟩ => rfl
      | ⟨1, _⟩ => rfl
  · rw [dif_neg hn]
    refine Eq.trans (concatenate_pair_apply_right (t := S17408) (s₁ := S16928) (s₂ := S480) 0 _ _ _ _ rfl rfl
      (ValueIdx.ix1 (⟨n.val - 16928, by omega⟩ : Fin 480)) (fun b hb => by
        match b with
        | ⟨0, _⟩ => exact absurd rfl hb) (by show n.val - 16928 + 16928 = n.val; omega)) ?_
    exact big_eq

/-- The padded rows. -/
theorem padded_apply (Y : Vid.Idx → ℝ) (r : Fin 25) (n : Fin 17408) :
    pad S25x17408 ![0, 0] ![0, 480] ![0, 0] (realRows Y) (sitofp .f32 (constantI S_ 32 0#32)) pads_S25x16928_S25x17408_000_04800 h_S_
      (ValueIdx.ix2 r n) = ((if hn : n.val < 16928 then Y (pix r ⟨n.val, hn⟩) else 0 : ℝ) : EReal) := by
  by_cases hn : n.val < 16928
  · rw [dif_pos hn]
    refine Eq.trans (pad_apply_of_inside _ _ _ _ _ _ _ _ (ValueIdx.ix2 r (⟨n.val, hn⟩ : Fin 16928)) (fun a => by
      match a with
      | ⟨0, _⟩ => show r.val = 0 + r.val * (0 + 1); omega
      | ⟨1, _⟩ => show n.val = 0 + n.val * (0 + 1); omega)) ?_
    exact rows_apply (F := Ideal) _ _ _
  · rw [dif_neg hn]
    refine Eq.trans (pad_apply_of_not_inside _ _ _ _ _ _ _ _ 1 (fun h => ?_)) (padding_eq _)
    have h2 : (n.val - 0) / (0 + 1) < 16928 := h.2.2
    omega

section Stack
variable (A : S25x17408.Idx → EReal) (B C : S1x17408.Idx → EReal) (r : Fin 27) (n : Fin 17408)

/-- Two rows under twenty-five. -/
abbrev stack : S27x17408.Idx → EReal := concatenate S27x17408 0 [⟨S25x17408, A⟩, ⟨S1x17408, B⟩, ⟨S1x17408, C⟩]
  concatenates_S25x17408_S1x17408_S1x17408_S27x17408_d0

/-- The first twenty-five rows. -/
theorem stack_top (hr : r.val < 25) : stack A B C (ValueIdx.ix2 r n) = A (ValueIdx.ix2 (⟨r.val, hr⟩ : Fin 25) n) :=
  concatenate_apply_piece (t := S27x17408) 0 [⟨S25x17408, A⟩, ⟨S1x17408, B⟩, ⟨S1x17408, C⟩] _ _ 0 (by show 0 < 3; omega) S25x17408 A
    rfl rfl 0 rfl (ValueIdx.ix2 (⟨r.val, hr⟩ : Fin 25) n) (fun b hb => by
      match b with
      | ⟨0, _⟩ => exact absurd rfl hb
      | ⟨1, _⟩ => rfl) (Nat.zero_add _)

/-- The row after them. -/
theorem stack_mid (hr : r.val = 25) : stack A B C (ValueIdx.ix2 r n) = B (ValueIdx.ix2 (0 : Fin 1) n) :=
  concatenate_apply_piece (t := S27x17408) 0 [⟨S25x17408, A⟩, ⟨S1x17408, B⟩, ⟨S1x17408, C⟩] _ _ 1 (by show 1 < 3; omega) S1x17408 B
    rfl rfl 25 rfl (ValueIdx.ix2 (0 : Fin 1) n) (fun b hb => by
      match b with
      | ⟨0, _⟩ => exact absurd rfl hb
      | ⟨1, _⟩ => rfl) hr.symm

/-- The last row. -/
theorem stack_last (hr : r.val = 26) : stack A B C (ValueIdx.ix2 r n) = C (ValueIdx.ix2 (0 : Fin 1) n) :=
  concatenate_apply_piece (t := S27x17408) 0 [⟨S25x17408, A⟩, ⟨S1x17408, B⟩, ⟨S1x17408, C⟩] _ _ 2 (by show 2 < 3; omega) S1x17408 C
    rfl rfl 26 rfl (ValueIdx.ix2 (0 : Fin 1) n) (fun b hb => by
      match b with
      | ⟨0, _⟩ => exact absurd rfl hb
      | ⟨1, _⟩ => rfl) hr.symm

end Stack

/-- A vector as a one-row matrix. -/
theorem asRow_apply (v : S17408.Idx → EReal) (n : Fin 17408) :
    broadcastInDim S1x17408 ![1] bcast_S17408_S1x17408_1 v (ValueIdx.ix2 (0 : Fin 1) n) = v (ValueIdx.ix1 n) :=
  broadcastInDim_apply _ _ _ _ (ValueIdx.ix1 n) (fun a => by
    match a with
    | ⟨0, _⟩ => rfl)

/-- The searched columns before their rows of zeros are the real ones. -/
theorem searchRows_apply (Y : Vid.Idx → ℝ) (r : Fin 27) (n : Fin 17408) :
    searchRows (F := Ideal) (realRows Y) (ValueIdx.ix2 r n) = ((K Y ⟨r.val, by omega⟩ n : ℝ) : EReal) := by
  unfold searchRows K
  by_cases hr : r.val < 25
  · rw [dif_pos hr]
    refine (stack_top _ _ _ r n hr).trans ?_
    refine (congrArg₂ (· * ·) negTwo_eq (padded_apply Y ⟨r.val, hr⟩ n) : (_ : EReal) = _).trans ?_
    rw [← EReal.coe_mul]
    by_cases hn : n.val < 16928
    · rw [dif_pos hn, dif_pos hn]
    · rw [dif_neg hn, dif_neg hn, mul_zero]
  · rw [dif_neg hr]
    by_cases h25 : r.val = 25
    · rw [if_pos h25]
      exact (stack_mid _ _ _ r n h25).trans ((asRow_apply _ n).trans (lengths_apply Y n))
    · rw [if_neg h25]
      refine (stack_last _ _ _ r n (by omega)).trans ((asRow_apply _ n).trans ?_)
      refine (congrArg₂ (· - ·) (lengths_apply Y n) (lengths_apply Y n) : (_ : EReal) = _).trans ?_
      rw [← EReal.coe_sub, sub_self]

/-- The searched columns are the real searched columns. -/
theorem searchArr_apply (Y : Vid.Idx → ℝ) (r : Fin 32) (n : Fin 17408) :
    searchArr (F := Ideal) (realRows Y) (ValueIdx.ix2 r n) = ((K Y r n : ℝ) : EReal) := by
  unfold searchArr
  by_cases h27 : r.val < 27
  · refine Eq.trans (pad_apply_of_inside _ _ _ _ _ _ _ _ (ValueIdx.ix2 (⟨r.val, h27⟩ : Fin 27) n) (fun a => by
      match a with
      | ⟨0, _⟩ => show r.val = 0 + r.val * (0 + 1); omega
      | ⟨1, _⟩ => show n.val = 0 + n.val * (0 + 1); omega)) ?_
    exact searchRows_apply Y _ n
  · unfold K
    rw [dif_neg (by omega), if_neg (by omega)]
    refine Eq.trans (pad_apply_of_not_inside _ _ _ _ _ _ _ _ 0 (fun h => ?_)) (padding_eq _)
    have h2 : (r.val - 0) / (0 + 1) < 27 := h.2.2
    omega

end Cert.KernelIdeal.Host

end
-- ==== Proof.Answer.lean ====
/- Hand-written, untrusted: the kernel program's result on videos of real numbers, as a real number. -/
module

public import proofs.«01_k».proof.Proof.Block
public import proofs.«01_k».proof.Proof.Tile
public import proofs.«01_k».proof.Proof.TileSum
public import proofs.«01_k».proof.Proof.SearchVal

@[expose] public section

set_option maxRecDepth 16384

noncomputable section

namespace Cert.KernelIdeal.Out

open Idealize.ShloMosaic
open Idealize.ShloMosaic.TcCoe Idealize.SL.Sem
open Cert.KernelIdeal Cert.KernelIdeal.Gen Cert.KernelIdeal.Host Cert.Proof

/-- The product of a query column with a searched column. -/
def prod (X Y : Vid.Idx → ℝ) (i n : Fin 17408) : ℝ := ∑ r : Fin 32, Q X r i * K Y r n

/-- The smallest product of a query column. -/
def least (X Y : Vid.Idx → ℝ) (i : Fin 17408) : ℝ := Finset.univ.inf' ⟨⟨0, by decide⟩, Finset.mem_univ _⟩ fun n : Fin 17408 => prod X Y i n

/-- Column `a` of tile `t`, among all the query columns. -/
def col (t : Fin 4) (a : Fin 4352) : Fin 17408 := ⟨4352 * t.val + a.val, by omega⟩

/-- The contribution of tile `t`. -/
def tileReal (X Y : Vid.Idx → ℝ) (t : Fin 4) : ℝ :=
  (∑ r : Fin 32, ∑ a : Fin 4352, Q X r (col t a) * Q X r (col t a)) - 2 * ((real t : ℕ) : ℝ) + ∑ a : Fin 4352, least X Y (col t a)

/-- What bounds the smallest of finitely many real numbers from below, among the extended reals. -/
theorem le_coe_inf' (f : Fin 17408 → ℝ) (H : (Finset.univ : Finset (Fin 17408)).Nonempty) (z : EReal) :
    z ≤ ((Finset.univ.inf' H f : ℝ) : EReal) ↔ ∀ n, z ≤ ((f n : ℝ) : EReal) := by
  constructor
  · intro h n
    exact h.trans (EReal.coe_le_coe_iff.2 (Finset.inf'_le f (Finset.mem_univ n)))
  · intro h
    obtain ⟨n, _, e⟩ := Finset.exists_mem_eq_inf' H f
    rw [e]
    exact h n

section Tile
variable (X Y : Vid.Idx → ℝ) (t : Fin 4) (q : FVec Ideal S32x4352 .bf16) (k : Vec Ideal S32x17408 .bf16)
  (hq : ∀ r a, (q (ValueIdx.ix2 r a) : EReal) = ((Q X r (col t a) : ℝ) : EReal))
  (hk : ∀ r n, (k (ValueIdx.ix2 r n) : EReal) = ((K Y r n : ℝ) : EReal))

include hq hk in
/-- The products are real. -/
theorem dot_real (a : Fin 4352) (n : Fin 17408) : dot q k a n = ((prod X Y (col t a) n : ℝ) : EReal) := by
  unfold dot prod
  rw [← coe_sum]
  refine Finset.sum_congr rfl fun r _ => ?_
  rw [hq, hk, EReal.coe_mul]

include hq hk in
/-- The smallest products are real. -/
theorem mins_real (a : Fin 4352) : (mins (best q k 16 (by decide)) (ValueIdx.ix1 a) : EReal) = ((least X Y (col t a) : ℝ) : EReal) := by
  refine eq_of_forall_le_iff fun z => ?_
  rw [le_mins_best]
  refine Iff.trans ?_ (le_coe_inf' _ _ z).symm
  exact forall_congr' fun n => by rw [dot_real X Y t q k hq hk]

include hq hk in
/-- A tile's contribution is real. -/
theorem tile_real : tile t.val q k = ((tileReal X Y t : ℝ) : EReal) := by
  unfold tile
  rw [total_eq]
  have e1 : (∑ r : Fin 32, ∑ a : Fin 4352, (q (ValueIdx.ix2 r a) : EReal) * q (ValueIdx.ix2 r a))
      = ((∑ r : Fin 32, ∑ a : Fin 4352, Q X r (col t a) * Q X r (col t a) : ℝ) : EReal) := by
    rw [← coe_sum]
    refine Finset.sum_congr rfl fun r _ => ?_
    rw [← coe_sum]
    exact Finset.sum_congr rfl fun a _ => by rw [hq, EReal.coe_mul]
  have e2 : (∑ a : Fin 4352, (mins (best q k 16 (by decide)) (ValueIdx.ix1 a) : EReal))
      = ((∑ a : Fin 4352, least X Y (col t a) : ℝ) : EReal) := by
    rw [← coe_sum]
    exact Finset.sum_congr rfl fun a _ => mins_real X Y t q k hq hk a
  rw [e1, e2]
  unfold tileReal
  rw [EReal.coe_add, EReal.coe_sub, EReal.coe_mul]

end Tile

variable (m : (ℓ : Loc nD τ sig) → Buf (Elt Ideal) ℓ) (c : Dev nD) (X Y : Vid.Idx → ℝ)
  (hX : m ((c : Thread nD τ).loc main_arg0) = fun i => ((X i : ℝ) : EReal))
  (hY : m ((c : Thread nD τ).loc main_arg1) = fun i => ((Y i : ℝ) : EReal))

include hX hY in
/-- The contribution of the tile at a grid point is real. -/
theorem point_real (t : Fin cfg0.N) (s : Fin 4) (hs : t.val = s.val) :
    tile s.val (iblk m c 0 t) (iblk m c 1 t) = ((tileReal X Y s : ℝ) : EReal) := by
  refine tile_real X Y s _ _ (fun r a => ?_) (fun r n => ?_)
  · refine (query_block m c t r a (col s a) (by rw [hs]; rfl)).trans ?_
    rw [query_eq m c, hX]
    exact queryArr_apply X r _
  · refine (search_block m c t r n).trans ?_
    rw [search_eq m c, hY]
    exact searchArr_apply Y r n

include hX hY in
/-- The result is the total of the four tiles. -/
theorem answer_real : answer m c
    = ((tileReal X Y 0 + tileReal X Y 1 + tileReal X Y 2 + tileReal X Y 3 : ℝ) : EReal) := by
  have hN : cfg0.N = 4 := N_0
  have e0 := point_real m c X Y hX hY ⟨0, by omega⟩ 0 rfl
  have e1 := point_real m c X Y hX hY ⟨1, by omega⟩ 1 rfl
  have e2 := point_real m c X Y hX hY ⟨2, by omega⟩ 2 rfl
  have e3 := point_real m c X Y hX hY ⟨3, by omega⟩ 3 rfl
  have z : (Ideal.ofBits .f32 0x00000000#32 : EReal) = 0 := Ideal.ofBits_zero_f32
  rw [EReal.coe_add, EReal.coe_add, EReal.coe_add, ← e0, ← e1, ← e2, ← e3]
  refine Eq.trans (b := ((((Ideal.ofBits .f32 0x00000000#32 : EReal) + _) + _) + _) + _) rfl ?_
  rw [z, zero_add]
  rfl

end Cert.KernelIdeal.Out

end
-- ==== Proof.RefVal.lean ====
/- Hand-written, untrusted: which entry of a video each entry of the reference's patch matrix is. -/
module

public import proofs.«01_k».proof.Proof.RefHost
public import proofs.«01_k».proof.Proof.Pix

@[expose] public section

set_option maxRecDepth 16384

noncomputable section

namespace Cert.ReferenceIdeal.Run

open Idealize.ShloMosaic Idealize.ShloMosaic.TcCoe Idealize.SL.Sem Idealize.ShloMosaic.StableHlo
open Cert.ReferenceIdeal Cert.ReferenceIdeal.Gen Cert.Proof

variable {F : FTy → Type} [FloatOps F]

/-- A window stacked as a slab has, at frame `f`, row `a`, column `b`, the video's entry displaced by the window. -/
theorem slab_apply (x : FVec F S1x1x2x96x96 .f32) (r : Fin 25) (i : S1x1x2x92x92.Idx) (p : Vid.Idx)
    (h0 : (p 0).val = 0) (h1 : (p 1).val = 0) (h2 : (p 2).val = (i 2).val) (h3 : (p 3).val = (i 3).val + r.val / 5)
    (h4 : (p 4).val = (i 4).val + r.val % 5) : slab x r i = x p := by
  unfold slab
  refine Eq.trans (broadcastInDim_apply _ _ _ _ (ValueIdx.ix4 (0 : Fin 1) (i 2 : Fin 2) (i 3 : Fin 92) (i 4 : Fin 92)) (fun a => by
    match a with
    | ⟨0, _⟩ => rfl
    | ⟨1, _⟩ => rfl
    | ⟨2, _⟩ => rfl
    | ⟨3, _⟩ => rfl)) ?_
  refine Eq.trans (shapeCast_apply _ _ _ (ValueIdx.ix5 (0 : Fin 1) (0 : Fin 1) (i 2 : Fin 2) (i 3 : Fin 92) (i 4 : Fin 92)) (by
    exact (rowMajor_val5 (d := ![1, 1, 2, 92, 92]) (ValueIdx.ix5 (0 : Fin 1) (0 : Fin 1) (i 2 : Fin 2) (i 3 : Fin 92) (i 4 : Fin 92)) 16928 16928 8464 92 rfl rfl rfl rfl).trans
      (Eq.trans (by show 0 * 16928 + 0 * 16928 + (i 2).val * 8464 + (i 3).val * 92 + (i 4).val = 0 * 16928 + (i 2).val * 8464 + (i 3).val * 92 + (i 4).val; rw [Nat.zero_mul, Nat.zero_add])
        (rowMajor_val4 (d := ![1, 2, 92, 92]) (ValueIdx.ix4 (0 : Fin 1) (i 2 : Fin 2) (i 3 : Fin 92) (i 4 : Fin 92)) 16928 8464 92 rfl rfl rfl).symm))) ?_
  unfold window
  refine extractStridedSlice_apply _ _ _ _ _ fun a => ?_
  match a with
  | ⟨0, _⟩ => exact h0
  | ⟨1, _⟩ => exact h1
  | ⟨2, _⟩ => exact h2.trans (Nat.zero_add _).symm
  | ⟨3, _⟩ => exact h3.trans (Nat.add_comm _ _)
  | ⟨4, _⟩ => exact h4.trans (Nat.add_comm _ _)

/-- Entry `n` of row `r` of the stacked windows is entry `r` of the patch at position `n`. -/
theorem stacked_apply (x : FVec F S1x1x2x96x96 .f32) (r : Fin 25) (n : Fin 16928) : stacked x (ValueIdx.ix2 r n) = x (pix r n) := by
  have hf : n.val / 8464 < 2 := by omega
  have ha : n.val / 92 % 92 < 92 := by omega
  have hb : n.val % 92 < 92 := by omega
  unfold stacked
  refine Eq.trans (shapeCast_apply _ _ _ (ValueIdx.ix5 r (0 : Fin 1) (⟨n.val / 8464, hf⟩ : Fin 2) (⟨n.val / 92 % 92, ha⟩ : Fin 92) (⟨n.val % 92, hb⟩ : Fin 92)) (by
    exact (rowMajor_val5 (d := ![25, 1, 2, 92, 92]) (ValueIdx.ix5 r (0 : Fin 1) (⟨n.val / 8464, hf⟩ : Fin 2) (⟨n.val / 92 % 92, ha⟩ : Fin 92) (⟨n.val % 92, hb⟩ : Fin 92)) 16928 16928 8464 92 rfl rfl rfl rfl).trans
      (Eq.trans (by show r.val * 16928 + 0 * 16928 + n.val / 8464 * 8464 + n.val / 92 % 92 * 92 + n.val % 92 = r.val * 16928 + n.val; omega)
        (rowMajor_val2 (d := ![25, 16928]) (ValueIdx.ix2 r n) 16928 rfl).symm))) ?_
  by_cases hr : r.val < 16
  · refine Eq.trans (concatenate_pair_apply_left (t := S25x1x2x92x92) (s₁ := S16x1x2x92x92) (s₂ := S9x1x2x92x92) 0 _ _ _ _ rfl
      (ValueIdx.ix5 (⟨r.val, hr⟩ : Fin 16) (0 : Fin 1) (⟨n.val / 8464, hf⟩ : Fin 2) (⟨n.val / 92 % 92, ha⟩ : Fin 92) (⟨n.val % 92, hb⟩ : Fin 92))
      (fun b => by
        match b with
        | ⟨0, _⟩ => rfl
        | ⟨1, _⟩ => rfl
        | ⟨2, _⟩ => rfl
        | ⟨3, _⟩ => rfl
        | ⟨4, _⟩ => rfl)) ?_
    refine Eq.trans (concatenate_ofFn_unit_apply (t := S16x1x2x92x92) (s₁ := S1x1x2x92x92) 0 (fun r : Fin 16 => slab x ⟨r.val, by omega⟩) _ rfl rfl _ ⟨r.val, hr⟩ (by exact rfl)
      (ValueIdx.ix5 (0 : Fin 1) (0 : Fin 1) (⟨n.val / 8464, hf⟩ : Fin 2) (⟨n.val / 92 % 92, ha⟩ : Fin 92) (⟨n.val % 92, hb⟩ : Fin 92))
      (fun b hb => by
        match b with
        | ⟨0, _⟩ => exact absurd rfl hb
        | ⟨1, _⟩ => rfl
        | ⟨2, _⟩ => rfl
        | ⟨3, _⟩ => rfl
        | ⟨4, _⟩ => rfl)) ?_
    exact slab_apply x _ _ _ rfl rfl rfl rfl rfl
  · have hr' : r.val - 16 < 9 := by omega
    refine Eq.trans (concatenate_pair_apply_right (t := S25x1x2x92x92) (s₁ := S16x1x2x92x92) (s₂ := S9x1x2x92x92) 0 _ _ _ _ rfl rfl
      (ValueIdx.ix5 (⟨r.val - 16, hr'⟩ : Fin 9) (0 : Fin 1) (⟨n.val / 8464, hf⟩ : Fin 2) (⟨n.val / 92 % 92, ha⟩ : Fin 92) (⟨n.val % 92, hb⟩ : Fin 92))
      (fun b hb => by
        match b with
        | ⟨0, _⟩ => exact absurd rfl hb
        | ⟨1, _⟩ => rfl
        | ⟨2, _⟩ => rfl
        | ⟨3, _⟩ => rfl
        | ⟨4, _⟩ => rfl) (by show r.val - 16 + 16 = r.val; omega)) ?_
    refine Eq.trans (concatenate_ofFn_unit_apply (t := S9x1x2x92x92) (s₁ := S1x1x2x92x92) 0 (fun r : Fin 9 => slab x ⟨16 + r.val, by omega⟩) _ rfl rfl _ ⟨r.val - 16, hr'⟩ (by exact rfl)
      (ValueIdx.ix5 (0 : Fin 1) (0 : Fin 1) (⟨n.val / 8464, hf⟩ : Fin 2) (⟨n.val / 92 % 92, ha⟩ : Fin 92) (⟨n.val % 92, hb⟩ : Fin 92))
      (fun b hb => by
        match b with
        | ⟨0, _⟩ => exact absurd rfl hb
        | ⟨1, _⟩ => rfl
        | ⟨2, _⟩ => rfl
        | ⟨3, _⟩ => rfl
        | ⟨4, _⟩ => rfl)) ?_
    have e : (⟨16 + (r.val - 16), by omega⟩ : Fin 25) = r := Fin.ext (by show 16 + (r.val - 16) = r.val; omega)
    show slab x ⟨16 + (r.val - 16), _⟩ _ = _
    rw [e]
    exact slab_apply x _ _ _ rfl rfl rfl rfl rfl

/-- Entry `r` of row `n` of the patch matrix is entry `r` of the patch at position `n`. -/
theorem patches_apply (x : FVec F S1x1x2x96x96 .f32) (n : Fin 16928) (r : Fin 25) : patches x (ValueIdx.ix2 n r) = x (pix r n) := by
  unfold patches
  refine Eq.trans (transpose_apply _ _ _ _ (ValueIdx.ix2 r n) (fun a => by
    match a with
    | ⟨0, _⟩ => rfl
    | ⟨1, _⟩ => rfl)) ?_
  exact stacked_apply x r n

end Cert.ReferenceIdeal.Run

end
-- ==== Proof.RefDist.lean ====
/- Hand-written, untrusted: the squared distances the reference computes, on videos of real numbers. -/
module

public import proofs.«01_k».proof.Proof.RefVal
public import proofs.«01_k».proof.Proof.RefLoss
public import proofs.«01_k».proof.Proof.Spec

@[expose] public section

set_option maxRecDepth 16384

noncomputable section

namespace Cert.ReferenceIdeal.Run

open Idealize.ShloMosaic
open Cert.ReferenceIdeal Cert.ReferenceIdeal.Gen Cert.Proof

/-- The patches of a video of real numbers. -/
abbrev realPatches (X : Vid.Idx → ℝ) : FVec Ideal S16928x25 .f32 := patches (F := Ideal) (fun i => ((X i : ℝ) : EReal))

/-- The squared distance between the patch of `X` at `n` and the patch of `Y` at `j`, multiplied out. -/
def sqDist (X Y : Vid.Idx → ℝ) (n j : Fin 16928) : ℝ := len X n - 2 * (∑ r : Fin 25, X (pix r n) * Y (pix r j)) + len Y j

/-- An entry of the patch matrix. -/
theorem realPatches_apply (X : Vid.Idx → ℝ) (n : Fin 16928) (r : Fin 25) :
    realPatches X (ValueIdx.ix2 n r) = ((X (pix r n) : ℝ) : EReal) := patches_apply (F := Ideal) _ n r

/-- The squared lengths of the patches. -/
theorem norms_apply (X : Vid.Idx → ℝ) (n : Fin 16928) :
    Host.reduceAdd (mulf (realPatches X) (realPatches X)) (constant S_ .f32 0x00000000#32) reducesTo_S16928x25_S16928_d1 h_S_ (ValueIdx.ix1 n)
      = ((len X n : ℝ) : EReal) := by
  refine (Ideal.hostReduceAdd_single reducesTo_S16928x25_S16928_d1 (by decide) _ _ _).trans ?_
  show Ideal.ofBits .f32 0x00000000#32 + _ = _
  rw [Ideal.ofBits_zero_f32, zero_add]
  unfold len
  rw [← coe_sum]
  refine Finset.sum_congr rfl fun r _ => ?_
  have e := realPatches_apply X n r
  rw [EReal.coe_mul]
  refine congrArg₂ (· * ·) (Eq.trans (congrArg (realPatches X) (funext fun c => ?_)) e) (Eq.trans (congrArg (realPatches X) (funext fun c => ?_)) e)
  · match c with
    | ⟨0, _⟩ => rfl
    | ⟨1, _⟩ => rfl
  · match c with
    | ⟨0, _⟩ => rfl
    | ⟨1, _⟩ => rfl

/-- The products of the patches. -/
theorem products_apply (X Y : Vid.Idx → ℝ) (n j : Fin 16928) :
    Host.dotGeneral dot_S16928x25_S25x16928_S16928x16928_1_0_0_1_n_n none (realPatches X)
        (transpose S25x16928 [1, 0] (realPatches Y) transposes_S16928x25_S25x16928_1_0) (ValueIdx.ix2 n j)
      = ((∑ r : Fin 25, X (pix r n) * Y (pix r j) : ℝ) : EReal) := by
  refine (Ideal.dotGeneral_apply _ _ _ _ _ _).trans
    ((DotDims.sum_contr₁ dot_S16928x25_S25x16928_S16928x16928_1_0_0_1_n_n (a := 1) rfl (K := 25) rfl _).trans ?_)
  rw [← coe_sum]
  refine Finset.sum_congr rfl fun r _ => ?_
  rw [EReal.coe_mul]
  refine congrArg₂ (· * ·) (Eq.trans (congrArg (realPatches X) (funext fun c => ?_)) (realPatches_apply X n r)) ?_
  · match c with
    | ⟨0, _⟩ => rfl
    | ⟨1, _⟩ => rfl
  · refine Eq.trans (transpose_apply _ _ _ _ (ValueIdx.ix2 j r) (fun a => ?_)) (realPatches_apply Y j r)
    match a with
    | ⟨0, _⟩ => rfl
    | ⟨1, _⟩ => rfl

/-- The constant two. -/
theorem two_eq : (FloatOps.ofBits (F := Ideal) .f32 0x40000000#32 : EReal) = ((2 : ℝ) : EReal) := by
  show Ideal.ofBits .f32 0x40000000#32 = _
  simp [Ideal.ofBits, Ideal.ieee]
  rw [← EReal.coe_mul]
  norm_num

/-- A vector laid down the rows of a square matrix. -/
theorem down_apply (v : S16928.Idx → EReal) (n j : Fin 16928) :
    broadcastInDim S16928x16928 ![0, 1] bcast_S16928x1_S16928x16928_0_1 (broadcastInDim S16928x1 ![0] bcast_S16928_S16928x1_0 v)
      (ValueIdx.ix2 n j) = v (ValueIdx.ix1 n) := by
  refine (broadcastInDim_apply _ _ _ _ (ValueIdx.ix2 n (0 : Fin 1)) (fun a => ?_)).trans
    (broadcastInDim_apply _ _ _ _ (ValueIdx.ix1 n) (fun a => ?_))
  · match a with
    | ⟨0, _⟩ => rfl
    | ⟨1, _⟩ => rfl
  · match a with
    | ⟨0, _⟩ => rfl

/-- A vector laid along the columns of a square matrix. -/
theorem across_apply (v : S16928.Idx → EReal) (n j : Fin 16928) :
    broadcastInDim S16928x16928 ![0, 1] bcast_S1x16928_S16928x16928_0_1 (broadcastInDim S1x16928 ![1] bcast_S16928_S1x16928_1 v)
      (ValueIdx.ix2 n j) = v (ValueIdx.ix1 j) := by
  refine (broadcastInDim_apply _ _ _ _ (ValueIdx.ix2 (0 : Fin 1) j) (fun a => ?_)).trans
    (broadcastInDim_apply _ _ _ _ (ValueIdx.ix1 j) (fun a => ?_))
  · match a with
    | ⟨0, _⟩ => rfl
    | ⟨1, _⟩ => rfl
  · match a with
    | ⟨0, _⟩ => rfl

/-- The distances are the real distances. -/
theorem dists_apply (X Y : Vid.Idx → ℝ) (n j : Fin 16928) :
    dists (realPatches X) (realPatches Y) (ValueIdx.ix2 n j) = ((sqDist X Y n j : ℝ) : EReal) := by
  unfold sqDist
  rw [EReal.coe_add, EReal.coe_sub, EReal.coe_mul, ← norms_apply X n, ← norms_apply Y j, ← products_apply X Y n j, ← two_eq]
  rw [← down_apply (Host.reduceAdd (mulf (realPatches X) (realPatches X)) (constant S_ .f32 0x00000000#32) reducesTo_S16928x25_S16928_d1 h_S_) n j,
    ← across_apply (Host.reduceAdd (mulf (realPatches Y) (realPatches Y)) (constant S_ .f32 0x00000000#32) reducesTo_S16928x25_S16928_d1 h_S_) n j]
  rfl

end Cert.ReferenceIdeal.Run

end
-- ==== Proof.RefNearest.lean ====
/- Hand-written, untrusted: the position the reference picks in each row is one of a least entry. -/
module

public import proofs.«01_k».proof.Proof.RefLoss
public import Idealize.ShloMosaic.Lib.Pointwise
public import Idealize.ShloMosaic.Lib.ValueIdxCore

@[expose] public section

set_option maxRecDepth 16384

noncomputable section

namespace Cert.ReferenceIdeal.Run

open Idealize.ShloMosaic
open Cert.ReferenceIdeal Cert.ReferenceIdeal.Gen

/-- The smaller of two pairs is one of them, and no larger than either. -/
theorem pick_spec (a b : Ideal .f32 × BitVec 32) :
    (reducer_argmin_f32_i32 (F := Ideal) a b = a ∨ reducer_argmin_f32_i32 (F := Ideal) a b = b)
      ∧ ((reducer_argmin_f32_i32 (F := Ideal) a b).1 : EReal) ≤ a.1 ∧ ((reducer_argmin_f32_i32 (F := Ideal) a b).1 : EReal) ≤ b.1 := by
  obtain ⟨x, i⟩ := a
  obtain ⟨y, j⟩ := b
  have hne : Ideal.cmp .une x x = 0#1 := by simp [Ideal.cmp]
  rcases lt_trichotomy (x : EReal) y with h | h | h
  · have e : reducer_argmin_f32_i32 (F := Ideal) (x, i) (y, j) = (x, i) := by
      simp [reducer_argmin_f32_i32, Ideal.cmpf_def, Ideal.cmp, h, h.ne, IntOp.ori, IntOp.andi, Scalar.select]
    rw [e]
    exact ⟨Or.inl rfl, le_refl _, h.le⟩
  · subst h
    have e : reducer_argmin_f32_i32 (F := Ideal) (x, i) (x, j) = (x, i) ∨ reducer_argmin_f32_i32 (F := Ideal) (x, i) (x, j) = (x, j) := by
      by_cases hc : IntOp.cmpi .slt i j = 1#1
      · left
        simp [reducer_argmin_f32_i32, Ideal.cmpf_def, Ideal.cmp, IntOp.ori, IntOp.andi, Scalar.select, hc]
      · right
        have hc' := ValueIdx.eq_zero_of_ne_one hc
        simp [reducer_argmin_f32_i32, Ideal.cmpf_def, Ideal.cmp, IntOp.ori, IntOp.andi, Scalar.select, hc']
    rcases e with e | e <;> rw [e]
    · exact ⟨Or.inl rfl, le_refl _, le_refl _⟩
    · exact ⟨Or.inr rfl, le_refl _, le_refl _⟩
  · have e : reducer_argmin_f32_i32 (F := Ideal) (x, i) (y, j) = (y, j) := by
      simp [reducer_argmin_f32_i32, Ideal.cmpf_def, Ideal.cmp, h.not_gt, h.ne', IntOp.ori, IntOp.andi, Scalar.select]
    rw [e]
    exact ⟨Or.inr rfl, h.le, le_refl _⟩

/-- The smallest pair of a list and a starting pair is one of them, and no larger than any. -/
theorem foldl_spec (l : List (Ideal .f32 × BitVec 32)) : ∀ p : Ideal .f32 × BitVec 32,
    (l.foldl (reducer_argmin_f32_i32 (F := Ideal)) p = p ∨ l.foldl (reducer_argmin_f32_i32 (F := Ideal)) p ∈ l)
      ∧ ((l.foldl (reducer_argmin_f32_i32 (F := Ideal)) p).1 : EReal) ≤ p.1
      ∧ ∀ e ∈ l, ((l.foldl (reducer_argmin_f32_i32 (F := Ideal)) p).1 : EReal) ≤ e.1 := by
  induction l with
  | nil => exact fun p => ⟨Or.inl rfl, le_refl _, fun e he => absurd he List.not_mem_nil⟩
  | cons e l ih =>
    intro p
    obtain ⟨h1, h2, h3⟩ := ih (reducer_argmin_f32_i32 (F := Ideal) p e)
    obtain ⟨g1, g2, g3⟩ := pick_spec p e
    rw [List.foldl_cons]
    refine ⟨?_, h2.trans g2, fun d hd => ?_⟩
    · rcases h1 with h1 | h1
      · rw [h1]
        rcases g1 with g1 | g1 <;> rw [g1]
        · exact Or.inl rfl
        · exact Or.inr List.mem_cons_self
      · exact Or.inr (List.mem_cons_of_mem _ h1)
    · rcases List.mem_cons.1 hd with rfl | hd
      · exact h2.trans g3
      · exact h3 d hd

/-- A pair picked along some axes is the starting pair or one of the pairs there, and no larger than any of them. -/
theorem picked_spec {s t u : Shape} {axes : List (Fin s.rank)} (x : FVec Ideal s .f32) (y : s.Idx → BitVec 32)
    (ix : u.Idx → Ideal .f32) (iy : u.Idx → BitVec 32) (h : s.ReducesTo axes t) (hu : 0 < u.numel)
    (f : t.Idx → Ideal .f32 × BitVec 32) (hf : f = Host.argReduce (reducer_argmin_f32_i32 (F := Ideal)) x y ix iy h hu) (j : t.Idx) :
    (f j = (ix (Shape.Idx.first hu), iy (Shape.Idx.first hu)) ∨ ∃ q, h.drop q = j ∧ f j = (x q, y q))
      ∧ ∀ q, h.drop q = j → ((f j).1 : EReal) ≤ x q := by
  subst hf
  rw [Ideal.argReduce_eq_reduce2, Host.reduce2_eq_foldl_fiber]
  obtain ⟨h1, -, h3⟩ := foldl_spec (Host.argReduceFiber x y h j) (ix (Shape.Idx.first hu), iy (Shape.Idx.first hu))
  refine ⟨h1.imp id fun hp => ?_, fun q hq => ?_⟩
  · obtain ⟨n, hn, e⟩ := List.mem_map.1 hp
    exact ⟨s.rowMajor.symm n, of_decide_eq_true (List.mem_filter.1 hn).2, e.symm⟩
  · refine h3 (x q, y q) (List.mem_map.2 ⟨s.rowMajor q, List.mem_filter.2 ⟨List.mem_finRange _, ?_⟩, ?_⟩)
    · rw [Equiv.symm_apply_apply]
      exact decide_eq_true hq
    · rw [Equiv.symm_apply_apply]

/-- The square matrix reduces to a vector along its columns. -/
theorem reduces_square : S16928x16928.Reduces [1] S16928 := by decide

/-- An entry of the square matrix lies in the row its row coordinate names. -/
theorem drop_square (n k : Fin 16928) :
    reducesTo_S16928x16928_S16928_d1.drop (ValueIdx.ix2 n k) = ValueIdx.ix1 n := by
  rw [Shape.ReducesTo.drop_eq_drop _ reduces_square]
  funext c
  match c with
  | ⟨0, _⟩ => rfl

/-- The starting value is infinite. -/
theorem top_eq : (FloatOps.ofBits (F := Ideal) .f32 0x7F800000#32 : EReal) = ⊤ := by
  show Ideal.ofBits .f32 0x7F800000#32 = ⊤
  simp [Ideal.ofBits, Ideal.ieee]

/-- The positions picked are the second parts of the pairs picked. -/
theorem nearest_eq {F : FTy → Type} [FloatOps F] (x : FVec F S16928x16928 .f32) : ∃ f : S16928.Idx → F .f32 × BitVec 32,
    f = Host.argReduce (reducer_argmin_f32_i32 (F := F)) x (iotaInDim S16928x16928 32 1)
      (constant S_ .f32 0x7F800000#32) (constantI S_ 32 0#32) reducesTo_S16928x16928_S16928_d1 h_S_ ∧ nearest x = fun j => (f j).2 :=
  ⟨_, rfl, rfl⟩

/-- In a matrix of real numbers the position picked in row `n` is one of a least entry of the row. -/
theorem nearest_spec (x : FVec Ideal S16928x16928 .f32) (n : Fin 16928) (d : Fin 16928 → ℝ)
    (hx : ∀ j : Fin 16928, x (ValueIdx.ix2 n j) = ((d j : ℝ) : EReal)) :
    ∃ i : Fin 16928, nearest x (ValueIdx.ix1 n) = BitVec.ofNat 32 i.val ∧ ∀ j, d i ≤ d j := by
  obtain ⟨f, hf, hn⟩ := nearest_eq x
  have key := picked_spec x (iotaInDim S16928x16928 32 1) (constant S_ .f32 0x7F800000#32) (constantI S_ 32 0#32)
    reducesTo_S16928x16928_S16928_d1 h_S_ f hf (ValueIdx.ix1 n)
  rw [hn]
  clear hn hf
  show ∃ i : Fin 16928, (f (ValueIdx.ix1 n)).2 = BitVec.ofNat 32 i.val ∧ ∀ j, d i ≤ d j
  generalize f (ValueIdx.ix1 n) = p at key ⊢
  obtain ⟨h1, h3⟩ := key
  have hle (j : Fin 16928) : (p.1 : EReal) ≤ ((d j : ℝ) : EReal) := by
    rw [← hx j]
    exact h3 _ (drop_square n j)
  rcases h1 with h1 | ⟨q, hq, h1⟩
  · have e : (p.1 : EReal) = ⊤ := (congrArg Prod.fst h1).trans top_eq
    have := hle 0
    rw [e] at this
    exact absurd this (not_le.2 (EReal.coe_lt_top _))
  · obtain ⟨a, i, rfl⟩ : ∃ a i : Fin 16928, q = ValueIdx.ix2 a i := ⟨q 0, q 1, ValueIdx.eq_ix2 q⟩
    rw [drop_square] at hq
    have ha : a = n := congrFun hq 0
    subst ha
    refine ⟨i, congrArg Prod.snd h1, fun j => ?_⟩
    have := hle j
    rw [h1] at this
    exact EReal.coe_le_coe_iff.1 (by rw [← hx i]; exact this)

end Cert.ReferenceIdeal.Run

end
-- ==== Proof.RefTaken.lean ====
/- Hand-written, untrusted: the rows the reference takes at positions inside the matrix. -/
module

public import proofs.«01_k».proof.Proof.RefLoss
public import Idealize.ShloMosaic.Lib.Pointwise
public import Idealize.ShloMosaic.Lib.ValueIdxCore

@[expose] public section

set_option maxRecDepth 16384

noncomputable section

namespace Cert.ReferenceIdeal.Run

open Idealize.ShloMosaic
open Cert.ReferenceIdeal Cert.ReferenceIdeal.Gen

/-- A position is not negative as a word. -/
theorem toInt_pos (a : Fin 16928) : (BitVec.ofNat 32 a.val).toInt = (a.val : ℤ) := by
  rw [BitVec.toInt_eq_toNat_of_lt (by rw [BitVec.toNat_ofNat]; omega), BitVec.toNat_ofNat]
  congr 1
  omega

section Taken
variable (i : IVec S16928 32) (I : Fin 16928 → Fin 16928) (hi : ∀ n, i (ValueIdx.ix1 n) = BitVec.ofNat 32 (I n).val)

include hi in
/-- Such a position stays as it is. -/
theorem wrapped_apply (n : Fin 16928) (z : Fin 1) : wrapped i (ValueIdx.ix2 n z) = BitVec.ofNat 32 (I n).val := by
  unfold wrapped
  refine (broadcastInDim_apply _ _ _ _ (ValueIdx.ix1 n) (fun a => by
    match a with
    | ⟨0, _⟩ => rfl)).trans ?_
  show Scalar.select (IntOp.cmpi .slt (i (ValueIdx.ix1 n)) 0#32) _ (i (ValueIdx.ix1 n)) = _
  rw [hi]
  have e : IntOp.cmpi .slt (BitVec.ofNat 32 (I n).val) 0#32 = 0#1 := by
    unfold IntOp.cmpi
    have h : (BitVec.ofNat 32 (I n).val).slt 0#32 = false := by
      rw [BitVec.slt, toInt_pos]
      exact decide_eq_false (not_lt.2 (Int.natCast_nonneg _))
    simp only [h]
    rfl
  rw [e]
  rfl

include hi in
/-- Such a position passes the bounds check. -/
theorem inside_apply (n : Fin 16928) : inside (wrapped i) (ValueIdx.ix1 n) = 1#1 := by
  unfold inside
  rw [Host.reduce_eq_foldl]
  have one (l : List S16928x1.Idx) (x : S16928x1.Idx → BitVec 1) (hx : ∀ p, x p = 1#1) :
      l.foldl (fun r p => IntOp.andi r (x p)) 1#1 = 1#1 := by
    induction l with
    | nil => rfl
    | cons p l ih => rw [List.foldl_cons, hx]; exact ih
  refine one _ _ fun p => ?_
  obtain ⟨a, z, rfl⟩ : ∃ (a : Fin 16928) (z : Fin 1), p = ValueIdx.ix2 a z := ⟨p 0, p 1, ValueIdx.eq_ix2 p⟩
  show IntOp.andi (IntOp.cmpi .sge (wrapped i (ValueIdx.ix2 a z)) 0#32) (IntOp.cmpi .sle (wrapped i (ValueIdx.ix2 a z)) 16927#32) = 1#1
  rw [wrapped_apply i I hi]
  have e1 : IntOp.cmpi .sge (BitVec.ofNat 32 (I a).val) 0#32 = 1#1 := by
    unfold IntOp.cmpi
    have h : (0#32 : BitVec 32).sle (BitVec.ofNat 32 (I a).val) = true := by
      rw [BitVec.sle, toInt_pos]
      exact decide_eq_true (Int.natCast_nonneg _)
    simp only [h]
    rfl
  have e2 : IntOp.cmpi .sle (BitVec.ofNat 32 (I a).val) 16927#32 = 1#1 := by
    unfold IntOp.cmpi
    have h : (BitVec.ofNat 32 (I a).val).sle 16927#32 = true := by
      rw [BitVec.sle, toInt_pos]
      refine decide_eq_true ?_
      show ((I a).val : ℤ) ≤ 16927
      omega
    simp only [h]
    rfl
  rw [e1, e2]
  rfl

/-- The gather of whole rows, read at an entry. -/
theorem gather_apply (k : FVec Ideal S16928x25 .f32) (w : IVec S16928x1 32) (n : Fin 16928) (r : Fin 25) (a : Fin 16928)
    (hw : w (ValueIdx.ix2 n (0 : Fin 1)) = BitVec.ofNat 32 a.val) :
    Host.gather gather_S16928x25_S16928x1_S16928x25_1_0_n_n_0_1_125 k w (ValueIdx.ix2 n r) = k (ValueIdx.ix2 a r) := by
  unfold Host.gather
  refine congrArg k ?_
  funext b
  apply Fin.ext
  match b with
  | ⟨0, _⟩ =>
    show min (w _).toInt.toNat (16928 - 1) + 0 + 0 = a.val
    have e : w (gather_S16928x25_S16928x1_S16928x25_1_0_n_n_0_1_125.siIdx (ValueIdx.ix2 n r) ⟨0, by decide⟩) = BitVec.ofNat 32 a.val := by
      refine Eq.trans (congrArg w (funext fun c => ?_)) hw
      match c with
      | ⟨0, _⟩ => rfl
      | ⟨1, _⟩ => rfl
    refine (congrArg (fun v : BitVec 32 => min v.toInt.toNat (16928 - 1) + 0 + 0) e).trans ?_
    show min (BitVec.ofNat 32 a.val).toInt.toNat (16928 - 1) + 0 + 0 = a.val
    rw [toInt_pos]
    omega
  | ⟨1, _⟩ => show 0 + 0 + r.val = r.val; omega

include hi in
/-- The rows taken are the rows at those positions. -/
theorem taken_apply (k : FVec Ideal S16928x25 .f32) (n : Fin 16928) (r : Fin 25) :
    taken k i (ValueIdx.ix2 n r) = k (ValueIdx.ix2 (I n) r) := by
  unfold taken
  show Scalar.select (broadcastInDim S16928x25 ![0] bcast_S16928_S16928x25_0 (inside (wrapped i)) (ValueIdx.ix2 n r)) _ _ = _
  have e : broadcastInDim S16928x25 ![0] bcast_S16928_S16928x25_0 (inside (wrapped i)) (ValueIdx.ix2 n r) = 1#1 :=
    (broadcastInDim_apply _ _ _ _ (ValueIdx.ix1 n) (fun a => by
      match a with
      | ⟨0, _⟩ => rfl)).trans (inside_apply i I hi n)
  rw [e, ValueIdx.select_one]
  exact gather_apply k _ n r (I n) (wrapped_apply i I hi n 0)

end Taken

end Cert.ReferenceIdeal.Run

end
-- ==== Proof.RefReal.lean ====
/- Hand-written, untrusted: the reference's loss on videos of real numbers. -/
module

public import proofs.«01_k».proof.Proof.RefDist
public import proofs.«01_k».proof.Proof.RefNearest
public import proofs.«01_k».proof.Proof.RefTaken

@[expose] public section

set_option maxRecDepth 16384

noncomputable section

namespace Cert.ReferenceIdeal.Run

open Idealize.ShloMosaic
open Cert.ReferenceIdeal Cert.ReferenceIdeal.Gen Cert.Proof

/-- The sum of squared differences between the patches of `X` and those of `Y` at positions `I`. -/
def lossReal (X Y : Vid.Idx → ℝ) (I : Fin 16928 → Fin 16928) : ℝ :=
  ∑ n : Fin 16928, ∑ r : Fin 25, (X (pix r n) - Y (pix r (I n))) * (X (pix r n) - Y (pix r (I n)))

/-- The squared differences to the taken rows add up to that sum. -/
theorem squares_apply (X Y : Vid.Idx → ℝ) (i : IVec S16928 32) (I : Fin 16928 → Fin 16928)
    (hi : ∀ n, i (ValueIdx.ix1 n) = BitVec.ofNat 32 (I n).val) (j : S_.Idx) :
    squares (realPatches X) (taken (realPatches Y) i) j = ((lossReal X Y I : ℝ) : EReal) := by
  unfold squares
  refine (Ideal.hostReduceAdd_total reducesTo_S16928x25_S_d0_1 (fun b => b.elim0) _ _ _).trans ?_
  show Ideal.ofBits .f32 0x00000000#32 + _ = _
  rw [Ideal.ofBits_zero_f32, zero_add]
  refine (ValueIdx.sum_idx2 _).trans ?_
  unfold lossReal
  rw [← coe_sum]
  refine Finset.sum_congr rfl fun n _ => ?_
  rw [← coe_sum]
  refine Finset.sum_congr rfl fun r _ => ?_
  rw [EReal.coe_mul, EReal.coe_sub, ← realPatches_apply X n r, ← realPatches_apply Y (I n) r, ← taken_apply i I hi (realPatches Y) n r]
  rfl

/-- The loss is that sum at positions of nearest patches. -/
theorem loss_real (X Y : Vid.Idx → ℝ) : ∃ I : Fin 16928 → Fin 16928, (∀ n j, sqDist X Y n (I n) ≤ sqDist X Y n j)
    ∧ loss (realPatches X) (realPatches Y) = fun _ => ((lossReal X Y I : ℝ) : EReal) := by
  choose I hI hd using fun n => nearest_spec (dists (realPatches X) (realPatches Y)) n (sqDist X Y n) (dists_apply X Y n)
  refine ⟨I, hd, funext fun j => ?_⟩
  unfold loss
  exact squares_apply X Y _ I hI j

end Cert.ReferenceIdeal.Run

end
-- ==== Proof.Moderate.lean ====
/- Hand-written, untrusted: what the precondition says of the two videos. -/
module

public import proofs.«01_k».proof.Pre_moderate
public import proofs.«01_k».proof.Proof.Pix
public import Idealize.ShloMosaic.Lib.ReduceAll
public import Idealize.ShloMosaic.Lib.Pointwise

@[expose] public section

set_option maxRecDepth 16384

noncomputable section

namespace Cert.Proof

open Idealize.ShloMosaic

/-- The bound on the magnitude of a pixel. -/
def bound : ℝ := 11920929 * 2 ^ 23

/-- The constant the precondition compares with is the bound. -/
theorem bound_eq : (FloatOps.ofBits (F := Ideal) .f32 0x56B5E621#32 : EReal) = ((bound : ℝ) : EReal) := by
  show Ideal.ofBits .f32 0x56B5E621#32 = _
  unfold bound
  simp [Ideal.ofBits, Ideal.ieee]
  first
  | done
  | (rw [← EReal.coe_mul]; norm_num)

/-- An extended real of magnitude at most a real number is a real number of magnitude at most that. -/
theorem real_of_abs_le (x : EReal) (b : ℝ) (h : max x (-x) ≤ ((b : ℝ) : EReal)) : x = ((x.toReal : ℝ) : EReal) ∧ |x.toReal| ≤ b := by
  obtain ⟨h1, h2⟩ := max_le_iff.1 h
  induction x with
  | bot => exact absurd h2 (by simp)
  | top => exact absurd h1 (by simp)
  | coe r =>
    refine ⟨rfl, abs_le.2 ⟨?_, ?_⟩⟩
    · have : ((-r : ℝ) : EReal) ≤ b := h2
      have := EReal.coe_le_coe_iff.1 this
      show -b ≤ r
      linarith
    · exact EReal.coe_le_coe_iff.1 h1

/-- A conjunction of two truth values is true only if both are. -/
theorem both (x y : BitVec 1) (h : IntOp.andi x y = 1#1) : x = 1#1 ∧ y = 1#1 := by
  revert x y
  decide

/-- An array all of whose entries pass the comparison with the bound is an array of real numbers within the bound. -/
theorem real_of_check (hF : Cert.Pre_moderate.Facts) (a : FVec Ideal Vid .f32) (j : Cert.Pre_moderate.S_.Idx)
    (h : Host.reduce IntOp.andi (cmpf .ole (Host.absf a) (broadcastInDim Vid ![] hF.bcast_S_S1x1x2x96x96
      (constant Cert.Pre_moderate.S_ .f32 0x56B5E621#32))) (constantI Cert.Pre_moderate.S_ 1 1#1)
      hF.reducesTo_S1x1x2x96x96_S_d0_1_2_3_4 hF.h_S_ j = 1#1) :
    ∃ X : Vid.Idx → ℝ, a = (fun i => ((X i : ℝ) : EReal)) ∧ ∀ i, |X i| ≤ bound := by
  have hs : Subsingleton Cert.Pre_moderate.S_.Idx := ⟨fun x y => funext fun b => b.elim0⟩
  have all (i : Vid.Idx) : max (a i : EReal) (-(a i)) ≤ ((bound : ℝ) : EReal) := by
    have e := Host.reduce_andi_all _ _ _ _ j h i
    rw [← bound_eq]
    by_contra hc
    have e' : Ideal.cmp .ole (max (a i : EReal) (-(a i))) (FloatOps.ofBits (F := Ideal) .f32 0x56B5E621#32) = 1#1 := e
    have z : Ideal.cmp .ole (max (a i : EReal) (-(a i))) (FloatOps.ofBits (F := Ideal) .f32 0x56B5E621#32) = 0#1 := by
      simp only [Ideal.cmp, decide_eq_false hc]
      rfl
    rw [z] at e'
    exact absurd e' (by decide)
  exact ⟨fun i => (a i : EReal).toReal, funext fun i => (real_of_abs_le _ _ (all i)).1, fun i => (real_of_abs_le _ _ (all i)).2⟩

/-- The precondition makes both videos arrays of real numbers within the bound. -/
theorem real_of_moderate (hF : Cert.Pre_moderate.Facts) (a b : FVec Ideal Vid .f32)
    (h : Cert.Pre_moderate.fn (F := Ideal) a b = fun _ => 1#1) :
    (∃ X : Vid.Idx → ℝ, a = (fun i => ((X i : ℝ) : EReal)) ∧ ∀ i, |X i| ≤ bound)
      ∧ ∃ Y : Vid.Idx → ℝ, b = (fun i => ((Y i : ℝ) : EReal)) ∧ ∀ i, |Y i| ≤ bound := by
  have j : Cert.Pre_moderate.S_.Idx := fun b => b.elim0
  obtain ⟨h1, h2⟩ := both _ _ (congrFun h j)
  exact ⟨real_of_check hF a j h1, real_of_check hF b j h2⟩

end Cert.Proof

end
-- ==== Proof.Columns.lean ====
/- Hand-written, untrusted: the kernel's products and least products, for columns of real numbers. -/
module

public import proofs.«01_k».proof.Proof.Answer
public import proofs.«01_k».proof.Proof.RefReal
public import proofs.«01_k».proof.Proof.Moderate

@[expose] public section

set_option maxRecDepth 16384

noncomputable section

namespace Cert.Proof

open Idealize.ShloMosaic
open Cert.KernelIdeal Cert.KernelIdeal.Out Cert.ReferenceIdeal.Run

/-- A sum over 32 rows is a sum over 25 and seven more terms. -/
theorem sum_rows (f : Fin 32 → ℝ) : ∑ r, f r = (∑ r : Fin 25, f ⟨r.val, by omega⟩) + (f 25 + f 26 + f 27 + f 28 + f 29 + f 30 + f 31) := by
  refine (Fin.sum_univ_add (a := 25) (b := 7) f).trans ?_
  rw [Fin.sum_univ_seven (f := fun i => f (Fin.natAdd 25 i))]
  rfl

/-- A column of a position, among all the columns. -/
def low (n : Fin 16928) : Fin 17408 := ⟨n.val, by omega⟩

variable (X Y : Vid.Idx → ℝ)

/-- The first 25 rows of a query column hold its patch. -/
theorem Q_low (n : Fin 16928) (r : Fin 25) : Q X ⟨r.val, by omega⟩ (low n) = X (pix r n) := by
  unfold Q low
  rw [dif_pos n.isLt, dif_pos r.isLt]

/-- The two rows after them hold ones, the others zero. -/
theorem Q_tail (n : Fin 16928) : Q X 25 (low n) = 1 ∧ Q X 26 (low n) = 1 ∧ Q X 27 (low n) = 0 ∧ Q X 28 (low n) = 0
    ∧ Q X 29 (low n) = 0 ∧ Q X 30 (low n) = 0 ∧ Q X 31 (low n) = 0 := by
  unfold Q low
  have h := n.isLt
  simp [h]

/-- A query column past the last position holds zero. -/
theorem Q_high (r : Fin 32) (i : Fin 17408) (hi : ¬ i.val < 16928) : Q X r i = 0 := by
  unfold Q
  rw [dif_neg hi]

/-- The rows of a searched column after the first 25 hold its length, and zero. -/
theorem K_tail (k : Fin 17408) : K Y 25 k = lenPad Y k ∧ K Y 26 k = 0 := by
  unfold K
  constructor <;> simp

/-- The product of a query column with the searched column of a position. -/
theorem prod_low (n j : Fin 16928) : prod X Y (low n) (low j) = sqDist X Y n j - len X n := by
  unfold prod
  obtain ⟨q0, q1, q2, q3, q4, q5, q6⟩ := Q_tail X n
  obtain ⟨k0, k1⟩ := K_tail Y (low j)
  rw [sum_rows, q0, q1, q2, q3, q4, q5, q6, k0, k1]
  have e : ∀ r : Fin 25, Q X ⟨r.val, by omega⟩ (low n) * K Y ⟨r.val, by omega⟩ (low j) = -2 * (X (pix r n) * Y (pix r j)) := fun r => by
    rw [Q_low]
    unfold K low
    rw [dif_pos r.isLt, dif_pos j.isLt]
    ring
  rw [Finset.sum_congr rfl fun r _ => e r, ← Finset.mul_sum]
  have l : lenPad Y (low j) = len Y j := by
    unfold lenPad low
    rw [dif_pos j.isLt]
  rw [l]
  unfold sqDist
  ring

/-- The product of a query column with a searched column past the last position is the large number. -/
theorem prod_high (n : Fin 16928) (k : Fin 17408) (hk : ¬ k.val < 16928) : prod X Y (low n) k = big := by
  unfold prod
  obtain ⟨q0, q1, q2, q3, q4, q5, q6⟩ := Q_tail X n
  obtain ⟨k0, k1⟩ := K_tail Y k
  rw [sum_rows, q0, q1, q2, q3, q4, q5, q6, k0, k1]
  have e : ∀ r : Fin 25, Q X ⟨r.val, by omega⟩ (low n) * K Y ⟨r.val, by omega⟩ k = 0 := fun r => by
    unfold K
    rw [dif_pos r.isLt, dif_neg hk, mul_zero]
  rw [Finset.sum_congr rfl fun r _ => e r, Finset.sum_const_zero]
  have l : lenPad Y k = big := by
    unfold lenPad
    rw [dif_neg hk]
  rw [l]
  ring

/-- Every product of a query column past the last position is zero. -/
theorem prod_zero (i k : Fin 17408) (hi : ¬ i.val < 16928) : prod X Y i k = 0 :=
  Finset.sum_eq_zero fun r _ => by rw [Q_high X r i hi, zero_mul]

/-- So is the least of them. -/
theorem least_zero (i : Fin 17408) (hi : ¬ i.val < 16928) : least X Y i = 0 := by
  unfold least
  refine le_antisymm ((Finset.inf'_le _ (Finset.mem_univ (0 : Fin 17408))).trans (prod_zero X Y i 0 hi).le)
    (Finset.le_inf' _ _ fun k _ => (prod_zero X Y i k hi).ge)

/-- The squares of a query column add up to its length and two. -/
theorem squares_low (n : Fin 16928) : ∑ r : Fin 32, Q X r (low n) * Q X r (low n) = len X n + 2 := by
  obtain ⟨q0, q1, q2, q3, q4, q5, q6⟩ := Q_tail X n
  rw [sum_rows, q0, q1, q2, q3, q4, q5, q6, Finset.sum_congr rfl fun r _ => by rw [Q_low X n r]]
  unfold len
  ring

/-- Products of pixels within the bound never reach the large number. -/
theorem below_big (hX : ∀ i, |X i| ≤ bound) (hY : ∀ i, |Y i| ≤ bound) (n j : Fin 16928) : sqDist X Y n j - len X n ≤ big := by
  have e : sqDist X Y n j - len X n = ∑ r : Fin 25, (-2 * (X (pix r n) * Y (pix r j)) + Y (pix r j) * Y (pix r j)) := by
    rw [Finset.sum_add_distrib, ← Finset.mul_sum]
    unfold sqDist len
    ring
  rw [e]
  have b : ∀ r ∈ (Finset.univ : Finset (Fin 25)),
      -2 * (X (pix r n) * Y (pix r j)) + Y (pix r j) * Y (pix r j) ≤ 3 * (bound * bound) := fun r _ => by
    have hb : 0 ≤ bound := (abs_nonneg _).trans (hX (pix r n))
    have h1 : |X (pix r n) * Y (pix r j)| ≤ bound * bound := by
      rw [abs_mul]
      exact mul_le_mul (hX _) (hY _) (abs_nonneg _) hb
    have h2 : |Y (pix r j) * Y (pix r j)| ≤ bound * bound := by
      rw [abs_mul]
      exact mul_le_mul (hY _) (hY _) (abs_nonneg _) hb
    have h3 := (abs_le.1 h1).1
    have h4 := (abs_le.1 h2).2
    linarith
  refine (Finset.sum_le_sum b).trans ?_
  rw [Finset.sum_const, Finset.card_univ, Fintype.card_fin, nsmul_eq_mul]
  unfold bound big
  norm_num

/-- The least product of a query column is the product at a nearest position. -/
theorem least_low (hX : ∀ i, |X i| ≤ bound) (hY : ∀ i, |Y i| ≤ bound) (n i : Fin 16928) (hi : ∀ j, sqDist X Y n i ≤ sqDist X Y n j) :
    least X Y (low n) = sqDist X Y n i - len X n := by
  unfold least
  refine le_antisymm ((Finset.inf'_le _ (Finset.mem_univ (low i))).trans (prod_low X Y n i).le) (Finset.le_inf' _ _ fun k _ => ?_)
  by_cases hk : k.val < 16928
  · refine le_trans ?_ (prod_low X Y n ⟨k.val, hk⟩).ge
    linarith [hi ⟨k.val, hk⟩]
  · rw [prod_high X Y n k hk]
    exact below_big X Y hX hY n i

end Cert.Proof

end
-- ==== Proof.Total.lean ====
/- Hand-written, untrusted: the four tiles add up to the loss. -/
module

public import proofs.«01_k».proof.Proof.Columns

@[expose] public section

set_option maxRecDepth 16384

noncomputable section

namespace Cert.Proof

open Idealize.ShloMosaic
open Cert.KernelIdeal Cert.KernelIdeal.Out Cert.ReferenceIdeal.Run

/-- The columns of the four tiles are all the columns. -/
theorem sum_tiles (g : Fin 17408 → ℝ) :
    (∑ a, g (col 0 a)) + (∑ a, g (col 1 a)) + (∑ a, g (col 2 a)) + (∑ a, g (col 3 a)) = ∑ i, g i := by
  have e : ∑ t : Fin 4, ∑ a : Fin 4352, g (col t a) = ∑ i, g i := by
    rw [← Fintype.sum_prod_type' (fun t a => g (col t a))]
    refine Fintype.sum_equiv (finProdFinEquiv (m := 4) (n := 4352)) _ g fun p => congrArg g (Fin.ext ?_)
    show 4352 * p.1.val + p.2.val = p.2.val + 4352 * p.1.val
    omega
  rw [← e, Fin.sum_univ_four]

/-- A sum over all the columns that vanishes past the last position is a sum over the positions. -/
theorem sum_positions (g : Fin 17408 → ℝ) (h : ∀ i : Fin 17408, ¬ i.val < 16928 → g i = 0) : ∑ i, g i = ∑ n, g (low n) := by
  refine (Fin.sum_univ_add (a := 16928) (b := 480) g).trans ?_
  rw [Finset.sum_eq_zero (s := Finset.univ) (f := fun i : Fin 480 => g (Fin.natAdd 16928 i))
    fun i _ => h _ (not_lt.2 (Nat.le_add_right 16928 i.val)), add_zero]
  rfl

variable (X Y : Vid.Idx → ℝ)

/-- What column `i` contributes: its squares and its least product. -/
def share (i : Fin 17408) : ℝ := (∑ r : Fin 32, Q X r i * Q X r i) + least X Y i

/-- A tile contributes what its columns contribute, less two for each position among them. -/
theorem tile_shares (t : Fin 4) : tileReal X Y t = (∑ a, share X Y (col t a)) - 2 * ((real t : ℕ) : ℝ) := by
  unfold tileReal share
  rw [Finset.sum_comm, Finset.sum_add_distrib]
  ring

/-- The differences squared are the distances. -/
theorem lossReal_eq (I : Fin 16928 → Fin 16928) : lossReal X Y I = ∑ n, sqDist X Y n (I n) := by
  unfold lossReal
  refine Finset.sum_congr rfl fun n _ => ?_
  unfold sqDist len
  rw [Finset.mul_sum, ← Finset.sum_sub_distrib, ← Finset.sum_add_distrib]
  exact Finset.sum_congr rfl fun r _ => by ring

/-- The four tiles add up to the loss. -/
theorem total_real (hX : ∀ i, |X i| ≤ bound) (hY : ∀ i, |Y i| ≤ bound) (I : Fin 16928 → Fin 16928)
    (hI : ∀ n j, sqDist X Y n (I n) ≤ sqDist X Y n j) :
    tileReal X Y 0 + tileReal X Y 1 + tileReal X Y 2 + tileReal X Y 3 = lossReal X Y I := by
  have s := sum_tiles (share X Y)
  have z : ∀ i : Fin 17408, ¬ i.val < 16928 → share X Y i = 0 := fun i hi => by
    unfold share
    rw [least_zero X Y i hi, Finset.sum_eq_zero fun r _ => by rw [Q_high X r i hi, zero_mul], add_zero]
  have l : ∀ n, share X Y (low n) = sqDist X Y n (I n) + 2 := fun n => by
    unfold share
    rw [squares_low, least_low X Y hX hY n (I n) (hI n)]
    ring
  rw [sum_positions _ z, Finset.sum_congr rfl fun n _ => l n, Finset.sum_add_distrib, Finset.sum_const, Finset.card_univ,
    Fintype.card_fin, nsmul_eq_mul] at s
  have r0 : real 0 = 4352 := by decide
  have r1 : real 1 = 4352 := by decide
  have r2 : real 2 = 4352 := by decide
  have r3 : real 3 = 3872 := by decide
  rw [lossReal_eq, tile_shares, tile_shares, tile_shares, tile_shares, r0, r1, r2, r3]
  push_cast at s ⊢
  linarith

end Cert.Proof

end
-- ==== Proof.lean ====
/- Hand-written, untrusted: the certificate, put together from the runs and the values of the two programs. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.RefArr
public import proofs.«01_k».proof.Proof.Total
public import Idealize.ShloMosaic.Adequacy
public import Idealize.ShloMosaic.Init

@[expose] public section

noncomputable section

namespace Cert.Proof

open Idealize.ShloMosaic Idealize.SL.Sem

/-- The side conditions of the precondition's operations. -/
theorem moderate_facts : Cert.Pre_moderate.Facts := ⟨by decide, by decide, by decide⟩

/-- The reference runs, leaves its arguments unchanged and ends with every semaphore at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  θ_run_mono (Cert.ReferenceIdeal.Run.run m g) fun _ h => ⟨fun c => (h.1 c).2, h.2⟩

/-- On videos of real numbers within the bound, the kernel's result is the reference's. -/
theorem answer_eq_loss (m : (ℓ : Loc Cert.KernelIdeal.nD Cert.KernelIdeal.τ Cert.KernelIdeal.sig) → Buf (Elt Ideal) ℓ)
    (c : Dev Cert.KernelIdeal.nD)
    (h : @Cert.Pre_moderate.fn moderate_facts Ideal _
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = fun _ => 1#1) :
    Cert.ReferenceIdeal.Run.loss (F := Ideal)
        (Cert.ReferenceIdeal.Run.patches (m ((c.tc : Thread Cert.KernelIdeal.nD Cert.KernelIdeal.τ).loc Cert.KernelIdeal.main_arg0)))
        (Cert.ReferenceIdeal.Run.patches (m ((c.tc : Thread Cert.KernelIdeal.nD Cert.KernelIdeal.τ).loc Cert.KernelIdeal.main_arg1)))
      = fun _ => Cert.KernelIdeal.Out.answer m c := by
  obtain ⟨⟨X, hX, bX⟩, Y, hY, bY⟩ := real_of_moderate moderate_facts _ _ h
  obtain ⟨I, hI, hl⟩ := Cert.ReferenceIdeal.Run.loss_real X Y
  rw [Cert.KernelIdeal.Out.answer_real m c X Y hX hY, total_real X Y bX bY I hI, ← hl, hX, hY]

/-- The certificate. -/
theorem claim : Cert.Claim := ⟨Cert.Kernel.Gen.facts, Cert.KernelIdeal.Gen.facts, Cert.ReferenceIdeal.Gen.facts, moderate_facts,
  fun m g _ => Cert.Kernel.Gen.frame m g,
  fun m g _ => Cert.KernelIdeal.Gen.frame m g,
  fun m g _ => Cert.KernelIdeal.Gen.frame m g,
  fun m g _ => reference_frame m g,
  fun m g _ => reference_frame m g,
  trivial,
  fun m g m' g' hpre hargs => ⟨fun c _ => Cert.KernelIdeal.Out.answer m c,
    Cert.KernelIdeal.Out.run m g,
    θ_run_mono (Cert.ReferenceIdeal.Run.run m' g') fun _ h c => by
      obtain ⟨h0, h1, h2⟩ := h.1 c
      refine ⟨h0.trans ?_, h1, h2⟩
      rw [(hargs c).1, (hargs c).2]
      exact answer_eq_loss m c (hpre c)⟩⟩

end Cert.Proof

end
